-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecRefIdeal (m : (ℓ : Loc Cert.DecRefIdeal.nD Cert.DecRefIdeal.τ Cert.DecRefIdeal.sig) → Buf (Elt Ideal) ℓ) : Prop :=
  True

def Pre_MlpDec (m : (ℓ : Loc Cert.MlpDec.nD Cert.MlpDec.τ Cert.MlpDec.sig) → Buf (Elt Bits) ℓ) : Prop :=
  True

def Pre_MlpDecIdeal (m : (ℓ : Loc Cert.MlpDecIdeal.nD Cert.MlpDecIdeal.τ Cert.MlpDecIdeal.sig) → Buf (Elt Ideal) ℓ) : Prop :=
  True

def Pre_MlpDecRefIdeal (m : (ℓ : Loc Cert.MlpDecRefIdeal.nD Cert.MlpDecRefIdeal.τ Cert.MlpDecRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8))
      ∧ r.2.sem = fun _ => 0)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4)
      ∧ r.2.mem ((c.tc : Thread Cert.Dec.nD Cert.Dec.τ).loc Cert.Dec.main_arg5) = m ((c.tc : Thread Cert.Dec.nD Cert.Dec.τ).loc Cert.Dec.main_arg5)
      ∧ r.2.mem ((c.tc : Thread Cert.Dec.nD Cert.Dec.τ).loc Cert.Dec.main_arg6) = m ((c.tc : Thread Cert.Dec.nD Cert.Dec.τ).loc Cert.Dec.main_arg6)
      ∧ r.2.mem ((c.tc : Thread Cert.Dec.nD Cert.Dec.τ).loc Cert.Dec.main_arg7) = m ((c.tc : Thread Cert.Dec.nD Cert.Dec.τ).loc Cert.Dec.main_arg7)
      ∧ r.2.mem ((c.tc : Thread Cert.Dec.nD Cert.Dec.τ).loc Cert.Dec.main_arg8) = m ((c.tc : Thread Cert.Dec.nD Cert.Dec.τ).loc Cert.Dec.main_arg8)
      ∧ r.2.mem ((c.tc : Thread Cert.Dec.nD Cert.Dec.τ).loc Cert.Dec.main_arg9) = m ((c.tc : Thread Cert.Dec.nD Cert.Dec.τ).loc Cert.Dec.main_arg9)
      ∧ r.2.mem ((c.tc : Thread Cert.Dec.nD Cert.Dec.τ).loc Cert.Dec.main_arg10) = m ((c.tc : Thread Cert.Dec.nD Cert.Dec.τ).loc Cert.Dec.main_arg10)
      ∧ r.2.mem ((c.tc : Thread Cert.Dec.nD Cert.Dec.τ).loc Cert.Dec.main_arg11) = m ((c.tc : Thread Cert.Dec.nD Cert.Dec.τ).loc Cert.Dec.main_arg11))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
      ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
      ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
      ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
      ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
      ∧ r.2.mem ((c.tc : Thread Cert.DecIdeal.nD Cert.DecIdeal.τ).loc Cert.DecIdeal.main_arg9) = m ((c.tc : Thread Cert.DecIdeal.nD Cert.DecIdeal.τ).loc Cert.DecIdeal.main_arg9)
      ∧ r.2.mem ((c.tc : Thread Cert.DecIdeal.nD Cert.DecIdeal.τ).loc Cert.DecIdeal.main_arg10) = m ((c.tc : Thread Cert.DecIdeal.nD Cert.DecIdeal.τ).loc Cert.DecIdeal.main_arg10)
      ∧ r.2.mem ((c.tc : Thread Cert.DecIdeal.nD Cert.DecIdeal.τ).loc Cert.DecIdeal.main_arg11) = m ((c.tc : Thread Cert.DecIdeal.nD Cert.DecIdeal.τ).loc Cert.DecIdeal.main_arg11))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m ((c.tc : Thread Cert.DecRefIdeal.nD Cert.DecRefIdeal.τ).loc Cert.DecRefIdeal.main_arg5)
      ∧ r.2.mem ((c.tc : Thread Cert.DecRefIdeal.nD Cert.DecRefIdeal.τ).loc Cert.DecRefIdeal.main_arg6) = m ((c.tc : Thread Cert.DecRefIdeal.nD Cert.DecRefIdeal.τ).loc Cert.DecRefIdeal.main_arg6)
      ∧ r.2.mem ((c.tc : Thread Cert.DecRefIdeal.nD Cert.DecRefIdeal.τ).loc Cert.DecRefIdeal.main_arg7) = m ((c.tc : Thread Cert.DecRefIdeal.nD Cert.DecRefIdeal.τ).loc Cert.DecRefIdeal.main_arg7)
      ∧ r.2.mem ((c.tc : Thread Cert.DecRefIdeal.nD Cert.DecRefIdeal.τ).loc Cert.DecRefIdeal.main_arg8) = m ((c.tc : Thread Cert.DecRefIdeal.nD Cert.DecRefIdeal.τ).loc Cert.DecRefIdeal.main_arg8)
      ∧ r.2.mem ((c.tc : Thread Cert.DecRefIdeal.nD Cert.DecRefIdeal.τ).loc Cert.DecRefIdeal.main_arg9) = m ((c.tc : Thread Cert.DecRefIdeal.nD Cert.DecRefIdeal.τ).loc Cert.DecRefIdeal.main_arg9)
      ∧ r.2.mem ((c.tc : Thread Cert.DecRefIdeal.nD Cert.DecRefIdeal.τ).loc Cert.DecRefIdeal.main_arg10) = m ((c.tc : Thread Cert.DecRefIdeal.nD Cert.DecRefIdeal.τ).loc Cert.DecRefIdeal.main_arg10)
      ∧ r.2.mem ((c.tc : Thread Cert.DecRefIdeal.nD Cert.DecRefIdeal.τ).loc Cert.DecRefIdeal.main_arg11) = m ((c.tc : Thread Cert.DecRefIdeal.nD Cert.DecRefIdeal.τ).loc Cert.DecRefIdeal.main_arg11))
      ∧ r.2.sem = fun _ => 0)

def quiescent_MlpDec [hMlpDec : Cert.MlpDec.Facts] : Prop :=
  ∀ (m : (ℓ : Loc Cert.MlpDec.nD Cert.MlpDec.τ Cert.MlpDec.sig) → Buf (Elt Bits) ℓ) (g : Dev Cert.MlpDec.nD → PrngReg), Pre_MlpDec m →
    θ_run (Cert.MlpDec.defs (F := Bits)) (onTc (τ := Cert.MlpDec.τ) (Cert.MlpDec.main (F := Bits))) ⟨m, fun _ => 0, g⟩ (fun r => (∀ c : Dev Cert.MlpDec.nD,
      r.2.mem ((c.tc : Thread Cert.MlpDec.nD Cert.MlpDec.τ).loc Cert.MlpDec.main_arg0) = m ((c.tc : Thread Cert.MlpDec.nD Cert.MlpDec.τ).loc Cert.MlpDec.main_arg0)
      ∧ r.2.mem ((c.tc : Thread Cert.MlpDec.nD Cert.MlpDec.τ).loc Cert.MlpDec.main_arg1) = m ((c.tc : Thread Cert.MlpDec.nD Cert.MlpDec.τ).loc Cert.MlpDec.main_arg1)
      ∧ r.2.mem ((c.tc : Thread Cert.MlpDec.nD Cert.MlpDec.τ).loc Cert.MlpDec.main_arg2) = m ((c.tc : Thread Cert.MlpDec.nD Cert.MlpDec.τ).loc Cert.MlpDec.main_arg2)
      ∧ r.2.mem ((c.tc : Thread Cert.MlpDec.nD Cert.MlpDec.τ).loc Cert.MlpDec.main_arg3) = m ((c.tc : Thread Cert.MlpDec.nD Cert.MlpDec.τ).loc Cert.MlpDec.main_arg3)
      ∧ r.2.mem ((c.tc : Thread Cert.MlpDec.nD Cert.MlpDec.τ).loc Cert.MlpDec.main_arg4) = m ((c.tc : Thread Cert.MlpDec.nD Cert.MlpDec.τ).loc Cert.MlpDec.main_arg4))
      ∧ r.2.sem = fun _ => 0)

def quiescent_MlpDecIdeal [hMlpDecIdeal : Cert.MlpDecIdeal.Facts] : Prop :=
  ∀ (m : (ℓ : Loc Cert.MlpDecIdeal.nD Cert.MlpDecIdeal.τ Cert.MlpDecIdeal.sig) → Buf (Elt Ideal) ℓ) (g : Dev Cert.MlpDecIdeal.nD → PrngReg), Pre_MlpDecIdeal m →
    θ_run (Cert.MlpDecIdeal.defs (F := Ideal)) (onTc (τ := Cert.MlpDecIdeal.τ) (Cert.MlpDecIdeal.main (F := Ideal))) ⟨m, fun _ => 0, g⟩ (fun r => (∀ c : Dev Cert.MlpDecIdeal.nD,
      r.2.mem ((c.tc : Thread Cert.MlpDecIdeal.nD Cert.MlpDecIdeal.τ).loc Cert.MlpDecIdeal.main_arg0) = m ((c.tc : Thread Cert.MlpDecIdeal.nD Cert.MlpDecIdeal.τ).loc Cert.MlpDecIdeal.main_arg0)
      ∧ r.2.mem ((c.tc : Thread Cert.MlpDecIdeal.nD Cert.MlpDecIdeal.τ).loc Cert.MlpDecIdeal.main_arg1) = m ((c.tc : Thread Cert.MlpDecIdeal.nD Cert.MlpDecIdeal.τ).loc Cert.MlpDecIdeal.main_arg1)
      ∧ r.2.mem ((c.tc : Thread Cert.MlpDecIdeal.nD Cert.MlpDecIdeal.τ).loc Cert.MlpDecIdeal.main_arg2) = m ((c.tc : Thread Cert.MlpDecIdeal.nD Cert.MlpDecIdeal.τ).loc Cert.MlpDecIdeal.main_arg2)
      ∧ r.2.mem ((c.tc : Thread Cert.MlpDecIdeal.nD Cert.MlpDecIdeal.τ).loc Cert.MlpDecIdeal.main_arg3) = m ((c.tc : Thread Cert.MlpDecIdeal.nD Cert.MlpDecIdeal.τ).loc Cert.MlpDecIdeal.main_arg3)
      ∧ r.2.mem ((c.tc : Thread Cert.MlpDecIdeal.nD Cert.MlpDecIdeal.τ).loc Cert.MlpDecIdeal.main_arg4) = m ((c.tc : Thread Cert.MlpDecIdeal.nD Cert.MlpDecIdeal.τ).loc Cert.MlpDecIdeal.main_arg4))
      ∧ r.2.sem = fun _ => 0)

def quiescent_MlpDecRefIdeal [hMlpDecRefIdeal : Cert.MlpDecRefIdeal.Facts] : Prop :=
  ∀ (m : (ℓ : Loc Cert.MlpDecRefIdeal.nD Cert.MlpDecRefIdeal.τ Cert.MlpDecRefIdeal.sig) → Buf (Elt Ideal) ℓ) (g : Dev Cert.MlpDecRefIdeal.nD → PrngReg), Pre_MlpDecRefIdeal m →
    θ_run (Cert.MlpDecRefIdeal.defs (F := Ideal)) (onTc (τ := Cert.MlpDecRefIdeal.τ) (Cert.MlpDecRefIdeal.main (F := Ideal))) ⟨m, fun _ => 0, g⟩ (fun r => (∀ c : Dev Cert.MlpDecRefIdeal.nD,
      r.2.mem ((c.tc : Thread Cert.MlpDecRefIdeal.nD Cert.MlpDecRefIdeal.τ).loc Cert.MlpDecRefIdeal.main_arg0) = m ((c.tc : Thread Cert.MlpDecRefIdeal.nD Cert.MlpDecRefIdeal.τ).loc Cert.MlpDecRefIdeal.main_arg0)
      ∧ r.2.mem ((c.tc : Thread Cert.MlpDecRefIdeal.nD Cert.MlpDecRefIdeal.τ).loc Cert.MlpDecRefIdeal.main_arg1) = m ((c.tc : Thread Cert.MlpDecRefIdeal.nD Cert.MlpDecRefIdeal.τ).loc Cert.MlpDecRefIdeal.main_arg1)
      ∧ r.2.mem ((c.tc : Thread Cert.MlpDecRefIdeal.nD Cert.MlpDecRefIdeal.τ).loc Cert.MlpDecRefIdeal.main_arg2) = m ((c.tc : Thread Cert.MlpDecRefIdeal.nD Cert.MlpDecRefIdeal.τ).loc Cert.MlpDecRefIdeal.main_arg2)
      ∧ r.2.mem ((c.tc : Thread Cert.MlpDecRefIdeal.nD Cert.MlpDecRefIdeal.τ).loc Cert.MlpDecRefIdeal.main_arg3) = m ((c.tc : Thread Cert.MlpDecRefIdeal.nD Cert.MlpDecRefIdeal.τ).loc Cert.MlpDecRefIdeal.main_arg3)
      ∧ r.2.mem ((c.tc : Thread Cert.MlpDecRefIdeal.nD Cert.MlpDecRefIdeal.τ).loc Cert.MlpDecRefIdeal.main_arg4) = m ((c.tc : Thread Cert.MlpDecRefIdeal.nD Cert.MlpDecRefIdeal.τ).loc Cert.MlpDecRefIdeal.main_arg4))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)) →
    ∃ (v0 : (c : Dev Cert.PromptIdeal.nD) → Buf (Elt Ideal) ((c.tc : Thread Cert.PromptIdeal.nD Cert.PromptIdeal.τ).loc Cert.PromptIdeal.main_v18_0)) (v1 : (c : Dev Cert.PromptIdeal.nD) → Buf (Elt Ideal) ((c.tc : Thread Cert.PromptIdeal.nD Cert.PromptIdeal.τ).loc Cert.PromptIdeal.main_v18_1)) (v2 : (c : Dev Cert.PromptIdeal.nD) → Buf (Elt Ideal) ((c.tc : Thread Cert.PromptIdeal.nD Cert.PromptIdeal.τ).loc Cert.PromptIdeal.main_v18_2)) (v3 : (c : Dev Cert.PromptIdeal.nD) → Buf (Elt Ideal) ((c.tc : Thread Cert.PromptIdeal.nD Cert.PromptIdeal.τ).loc Cert.PromptIdeal.main_v18_3)) (v4 : (c : Dev Cert.PromptIdeal.nD) → Buf (Elt Ideal) ((c.tc : Thread Cert.PromptIdeal.nD Cert.PromptIdeal.τ).loc Cert.PromptIdeal.main_v18_4)) (v5 : (c : Dev Cert.PromptIdeal.nD) → Buf (Elt Ideal) ((c.tc : Thread Cert.PromptIdeal.nD Cert.PromptIdeal.τ).loc Cert.PromptIdeal.main_v18_5)) (v6 : (c : Dev Cert.PromptIdeal.nD) → Buf (Elt Ideal) ((c.tc : Thread Cert.PromptIdeal.nD Cert.PromptIdeal.τ).loc Cert.PromptIdeal.main_v18_6)) (v7 : (c : Dev Cert.PromptIdeal.nD) → Buf (Elt Ideal) ((c.tc : Thread Cert.PromptIdeal.nD Cert.PromptIdeal.τ).loc Cert.PromptIdeal.main_v18_7)) (v8 : (c : Dev Cert.PromptIdeal.nD) → Buf (Elt Ideal) ((c.tc : Thread Cert.PromptIdeal.nD Cert.PromptIdeal.τ).loc Cert.PromptIdeal.main_v18_8)) (v9 : (c : Dev Cert.PromptIdeal.nD) → Buf (Elt Ideal) ((c.tc : Thread Cert.PromptIdeal.nD Cert.PromptIdeal.τ).loc Cert.PromptIdeal.main_v18_9)) (v10 : (c : Dev Cert.PromptIdeal.nD) → Buf (Elt Ideal) ((c.tc : Thread Cert.PromptIdeal.nD Cert.PromptIdeal.τ).loc Cert.PromptIdeal.main_v18_10)) (v11 : (c : Dev Cert.PromptIdeal.nD) → Buf (Elt Ideal) ((c.tc : Thread Cert.PromptIdeal.nD Cert.PromptIdeal.τ).loc Cert.PromptIdeal.main_v22_0)) (v12 : (c : Dev Cert.PromptIdeal.nD) → Buf (Elt Ideal) ((c.tc : Thread Cert.PromptIdeal.nD Cert.PromptIdeal.τ).loc Cert.PromptIdeal.main_v22_1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v18_0) = v0 c
          ∧ r.2.mem ((c.tc : Thread Cert.PromptIdeal.nD Cert.PromptIdeal.τ).loc Cert.PromptIdeal.main_v18_1) = v1 c
          ∧ r.2.mem ((c.tc : Thread Cert.PromptIdeal.nD Cert.PromptIdeal.τ).loc Cert.PromptIdeal.main_v18_2) = v2 c
          ∧ r.2.mem ((c.tc : Thread Cert.PromptIdeal.nD Cert.PromptIdeal.τ).loc Cert.PromptIdeal.main_v18_3) = v3 c
          ∧ r.2.mem ((c.tc : Thread Cert.PromptIdeal.nD Cert.PromptIdeal.τ).loc Cert.PromptIdeal.main_v18_4) = v4 c
          ∧ r.2.mem ((c.tc : Thread Cert.PromptIdeal.nD Cert.PromptIdeal.τ).loc Cert.PromptIdeal.main_v18_5) = v5 c
          ∧ r.2.mem ((c.tc : Thread Cert.PromptIdeal.nD Cert.PromptIdeal.τ).loc Cert.PromptIdeal.main_v18_6) = v6 c
          ∧ r.2.mem ((c.tc : Thread Cert.PromptIdeal.nD Cert.PromptIdeal.τ).loc Cert.PromptIdeal.main_v18_7) = v7 c
          ∧ r.2.mem ((c.tc : Thread Cert.PromptIdeal.nD Cert.PromptIdeal.τ).loc Cert.PromptIdeal.main_v18_8) = v8 c
          ∧ r.2.mem ((c.tc : Thread Cert.PromptIdeal.nD Cert.PromptIdeal.τ).loc Cert.PromptIdeal.main_v18_9) = v9 c
          ∧ r.2.mem ((c.tc : Thread Cert.PromptIdeal.nD Cert.PromptIdeal.τ).loc Cert.PromptIdeal.main_v18_10) = v10 c
          ∧ r.2.mem ((c.tc : Thread Cert.PromptIdeal.nD Cert.PromptIdeal.τ).loc Cert.PromptIdeal.main_v22_0) = v11 c
          ∧ r.2.mem ((c.tc : Thread Cert.PromptIdeal.nD Cert.PromptIdeal.τ).loc Cert.PromptIdeal.main_v22_1) = v12 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v80) = v0 c
          ∧ r.2.mem ((c.tc : Thread Cert.PromptRefIdeal.nD Cert.PromptRefIdeal.τ).loc Cert.PromptRefIdeal.main_v81) = v1 c
          ∧ r.2.mem ((c.tc : Thread Cert.PromptRefIdeal.nD Cert.PromptRefIdeal.τ).loc Cert.PromptRefIdeal.main_v82) = v2 c
          ∧ r.2.mem ((c.tc : Thread Cert.PromptRefIdeal.nD Cert.PromptRefIdeal.τ).loc Cert.PromptRefIdeal.main_v84) = v3 c
          ∧ r.2.mem ((c.tc : Thread Cert.PromptRefIdeal.nD Cert.PromptRefIdeal.τ).loc Cert.PromptRefIdeal.main_v86) = v4 c
          ∧ r.2.mem ((c.tc : Thread Cert.PromptRefIdeal.nD Cert.PromptRefIdeal.τ).loc Cert.PromptRefIdeal.main_v88) = v5 c
          ∧ r.2.mem ((c.tc : Thread Cert.PromptRefIdeal.nD Cert.PromptRefIdeal.τ).loc Cert.PromptRefIdeal.main_v90) = v6 c
          ∧ r.2.mem ((c.tc : Thread Cert.PromptRefIdeal.nD Cert.PromptRefIdeal.τ).loc Cert.PromptRefIdeal.main_v92) = v7 c
          ∧ r.2.mem ((c.tc : Thread Cert.PromptRefIdeal.nD Cert.PromptRefIdeal.τ).loc Cert.PromptRefIdeal.main_v94) = v8 c
          ∧ r.2.mem ((c.tc : Thread Cert.PromptRefIdeal.nD Cert.PromptRefIdeal.τ).loc Cert.PromptRefIdeal.main_v97) = v9 c
          ∧ r.2.mem ((c.tc : Thread Cert.PromptRefIdeal.nD Cert.PromptRefIdeal.τ).loc Cert.PromptRefIdeal.main_v99) = v10 c
          ∧ r.2.mem ((c.tc : Thread Cert.PromptRefIdeal.nD Cert.PromptRefIdeal.τ).loc Cert.PromptRefIdeal.main_v100) = v11 c
          ∧ r.2.mem ((c.tc : Thread Cert.PromptRefIdeal.nD Cert.PromptRefIdeal.τ).loc Cert.PromptRefIdeal.main_v101) = v12 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8))

def preserves_Dec_DecIdeal : Prop :=
  True

def algebraic_DecIdeal_DecRefIdeal [hDecIdeal : Cert.DecIdeal.Facts] [hDecRefIdeal : Cert.DecRefIdeal.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)
      ∧ m' ((c.tc : Thread Cert.DecRefIdeal.nD Cert.DecRefIdeal.τ).loc Cert.DecRefIdeal.main_arg3) = m ((c.tc : Thread Cert.DecIdeal.nD Cert.DecIdeal.τ).loc Cert.DecIdeal.main_arg3)
      ∧ m' ((c.tc : Thread Cert.DecRefIdeal.nD Cert.DecRefIdeal.τ).loc Cert.DecRefIdeal.main_arg4) = m ((c.tc : Thread Cert.DecIdeal.nD Cert.DecIdeal.τ).loc Cert.DecIdeal.main_arg4)
      ∧ m' ((c.tc : Thread Cert.DecRefIdeal.nD Cert.DecRefIdeal.τ).loc Cert.DecRefIdeal.main_arg5) = m ((c.tc : Thread Cert.DecIdeal.nD Cert.DecIdeal.τ).loc Cert.DecIdeal.main_arg5)
      ∧ m' ((c.tc : Thread Cert.DecRefIdeal.nD Cert.DecRefIdeal.τ).loc Cert.DecRefIdeal.main_arg6) = m ((c.tc : Thread Cert.DecIdeal.nD Cert.DecIdeal.τ).loc Cert.DecIdeal.main_arg6)
      ∧ m' ((c.tc : Thread Cert.DecRefIdeal.nD Cert.DecRefIdeal.τ).loc Cert.DecRefIdeal.main_arg7) = m ((c.tc : Thread Cert.DecIdeal.nD Cert.DecIdeal.τ).loc Cert.DecIdeal.main_arg7)
      ∧ m' ((c.tc : Thread Cert.DecRefIdeal.nD Cert.DecRefIdeal.τ).loc Cert.DecRefIdeal.main_arg8) = m ((c.tc : Thread Cert.DecIdeal.nD Cert.DecIdeal.τ).loc Cert.DecIdeal.main_arg8)
      ∧ m' ((c.tc : Thread Cert.DecRefIdeal.nD Cert.DecRefIdeal.τ).loc Cert.DecRefIdeal.main_arg9) = m ((c.tc : Thread Cert.DecIdeal.nD Cert.DecIdeal.τ).loc Cert.DecIdeal.main_arg9)
      ∧ m' ((c.tc : Thread Cert.DecRefIdeal.nD Cert.DecRefIdeal.τ).loc Cert.DecRefIdeal.main_arg10) = m ((c.tc : Thread Cert.DecIdeal.nD Cert.DecIdeal.τ).loc Cert.DecIdeal.main_arg10)
      ∧ m' ((c.tc : Thread Cert.DecRefIdeal.nD Cert.DecRefIdeal.τ).loc Cert.DecRefIdeal.main_arg11) = m ((c.tc : Thread Cert.DecIdeal.nD Cert.DecIdeal.τ).loc Cert.DecIdeal.main_arg11)) →
    ∃ (v0 : (c : Dev Cert.DecIdeal.nD) → Buf (Elt Ideal) ((c.tc : Thread Cert.DecIdeal.nD Cert.DecIdeal.τ).loc Cert.DecIdeal.main_v18_0)) (v1 : (c : Dev Cert.DecIdeal.nD) → Buf (Elt Ideal) ((c.tc : Thread Cert.DecIdeal.nD Cert.DecIdeal.τ).loc Cert.DecIdeal.main_v18_7)) (v2 : (c : Dev Cert.DecIdeal.nD) → Buf (Elt Ideal) ((c.tc : Thread Cert.DecIdeal.nD Cert.DecIdeal.τ).loc Cert.DecIdeal.main_v18_8)) (v3 : (c : Dev Cert.DecIdeal.nD) → Buf (Elt Ideal) ((c.tc : Thread Cert.DecIdeal.nD Cert.DecIdeal.τ).loc Cert.DecIdeal.main_v33_0)) (v4 : (c : Dev Cert.DecIdeal.nD) → Buf (Elt Ideal) ((c.tc : Thread Cert.DecIdeal.nD Cert.DecIdeal.τ).loc Cert.DecIdeal.main_v40)) (v5 : (c : Dev Cert.DecIdeal.nD) → Buf (Elt Ideal) ((c.tc : Thread Cert.DecIdeal.nD Cert.DecIdeal.τ).loc Cert.DecIdeal.main_v41)) (v6 : (c : Dev Cert.DecIdeal.nD) → Buf (Elt Ideal) ((c.tc : Thread Cert.DecIdeal.nD Cert.DecIdeal.τ).loc Cert.DecIdeal.main_v42)) (v7 : (c : Dev Cert.DecIdeal.nD) → Buf (Elt Ideal) ((c.tc : Thread Cert.DecIdeal.nD Cert.DecIdeal.τ).loc Cert.DecIdeal.main_v43)) (v8 : (c : Dev Cert.DecIdeal.nD) → Buf (Elt Ideal) ((c.tc : Thread Cert.DecIdeal.nD Cert.DecIdeal.τ).loc Cert.DecIdeal.main_v36)) (v9 : (c : Dev Cert.DecIdeal.nD) → Buf (Elt Ideal) ((c.tc : Thread Cert.DecIdeal.nD Cert.DecIdeal.τ).loc Cert.DecIdeal.main_v39)) (v10 : (c : Dev Cert.DecIdeal.nD) → Buf (Elt Ideal) ((c.tc : Thread Cert.DecIdeal.nD Cert.DecIdeal.τ).loc Cert.DecIdeal.main_v45)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v18_0) = v0 c
          ∧ r.2.mem ((c.tc : Thread Cert.DecIdeal.nD Cert.DecIdeal.τ).loc Cert.DecIdeal.main_v18_7) = v1 c
          ∧ r.2.mem ((c.tc : Thread Cert.DecIdeal.nD Cert.DecIdeal.τ).loc Cert.DecIdeal.main_v18_8) = v2 c
          ∧ r.2.mem ((c.tc : Thread Cert.DecIdeal.nD Cert.DecIdeal.τ).loc Cert.DecIdeal.main_v33_0) = v3 c
          ∧ r.2.mem ((c.tc : Thread Cert.DecIdeal.nD Cert.DecIdeal.τ).loc Cert.DecIdeal.main_v40) = v4 c
          ∧ r.2.mem ((c.tc : Thread Cert.DecIdeal.nD Cert.DecIdeal.τ).loc Cert.DecIdeal.main_v41) = v5 c
          ∧ r.2.mem ((c.tc : Thread Cert.DecIdeal.nD Cert.DecIdeal.τ).loc Cert.DecIdeal.main_v42) = v6 c
          ∧ r.2.mem ((c.tc : Thread Cert.DecIdeal.nD Cert.DecIdeal.τ).loc Cert.DecIdeal.main_v43) = v7 c
          ∧ r.2.mem ((c.tc : Thread Cert.DecIdeal.nD Cert.DecIdeal.τ).loc Cert.DecIdeal.main_v36) = v8 c
          ∧ r.2.mem ((c.tc : Thread Cert.DecIdeal.nD Cert.DecIdeal.τ).loc Cert.DecIdeal.main_v39) = v9 c
          ∧ r.2.mem ((c.tc : Thread Cert.DecIdeal.nD Cert.DecIdeal.τ).loc Cert.DecIdeal.main_v45) = v10 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
          ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
          ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
          ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
          ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
          ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
          ∧ r.2.mem ((c.tc : Thread Cert.DecIdeal.nD Cert.DecIdeal.τ).loc Cert.DecIdeal.main_arg9) = m ((c.tc : Thread Cert.DecIdeal.nD Cert.DecIdeal.τ).loc Cert.DecIdeal.main_arg9)
          ∧ r.2.mem ((c.tc : Thread Cert.DecIdeal.nD Cert.DecIdeal.τ).loc Cert.DecIdeal.main_arg10) = m ((c.tc : Thread Cert.DecIdeal.nD Cert.DecIdeal.τ).loc Cert.DecIdeal.main_arg10)
          ∧ r.2.mem ((c.tc : Thread Cert.DecIdeal.nD Cert.DecIdeal.τ).loc Cert.DecIdeal.main_arg11) = m ((c.tc : Thread Cert.DecIdeal.nD Cert.DecIdeal.τ).loc Cert.DecIdeal.main_arg11))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v82) = v0 c
          ∧ r.2.mem ((c.tc : Thread Cert.DecRefIdeal.nD Cert.DecRefIdeal.τ).loc Cert.DecRefIdeal.main_v85) = v1 c
          ∧ r.2.mem ((c.tc : Thread Cert.DecRefIdeal.nD Cert.DecRefIdeal.τ).loc Cert.DecRefIdeal.main_v87) = v2 c
          ∧ r.2.mem ((c.tc : Thread Cert.DecRefIdeal.nD Cert.DecRefIdeal.τ).loc Cert.DecRefIdeal.main_v89) = v3 c
          ∧ r.2.mem ((c.tc : Thread Cert.DecRefIdeal.nD Cert.DecRefIdeal.τ).loc Cert.DecRefIdeal.main_v90) = v4 c
          ∧ r.2.mem ((c.tc : Thread Cert.DecRefIdeal.nD Cert.DecRefIdeal.τ).loc Cert.DecRefIdeal.main_v91) = v5 c
          ∧ r.2.mem ((c.tc : Thread Cert.DecRefIdeal.nD Cert.DecRefIdeal.τ).loc Cert.DecRefIdeal.main_v92) = v6 c
          ∧ r.2.mem ((c.tc : Thread Cert.DecRefIdeal.nD Cert.DecRefIdeal.τ).loc Cert.DecRefIdeal.main_v93) = v7 c
          ∧ r.2.mem ((c.tc : Thread Cert.DecRefIdeal.nD Cert.DecRefIdeal.τ).loc Cert.DecRefIdeal.main_v94) = v8 c
          ∧ r.2.mem ((c.tc : Thread Cert.DecRefIdeal.nD Cert.DecRefIdeal.τ).loc Cert.DecRefIdeal.main_v95) = v9 c
          ∧ r.2.mem ((c.tc : Thread Cert.DecRefIdeal.nD Cert.DecRefIdeal.τ).loc Cert.DecRefIdeal.main_v96) = v10 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
          ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3)
          ∧ r.2.mem ((c.tc : Thread Cert.DecRefIdeal.nD Cert.DecRefIdeal.τ).loc Cert.DecRefIdeal.main_arg4) = m' ((c.tc : Thread Cert.DecRefIdeal.nD Cert.DecRefIdeal.τ).loc Cert.DecRefIdeal.main_arg4)
          ∧ r.2.mem ((c.tc : Thread Cert.DecRefIdeal.nD Cert.DecRefIdeal.τ).loc Cert.DecRefIdeal.main_arg5) = m' ((c.tc : Thread Cert.DecRefIdeal.nD Cert.DecRefIdeal.τ).loc Cert.DecRefIdeal.main_arg5)
          ∧ r.2.mem ((c.tc : Thread Cert.DecRefIdeal.nD Cert.DecRefIdeal.τ).loc Cert.DecRefIdeal.main_arg6) = m' ((c.tc : Thread Cert.DecRefIdeal.nD Cert.DecRefIdeal.τ).loc Cert.DecRefIdeal.main_arg6)
          ∧ r.2.mem ((c.tc : Thread Cert.DecRefIdeal.nD Cert.DecRefIdeal.τ).loc Cert.DecRefIdeal.main_arg7) = m' ((c.tc : Thread Cert.DecRefIdeal.nD Cert.DecRefIdeal.τ).loc Cert.DecRefIdeal.main_arg7)
          ∧ r.2.mem ((c.tc : Thread Cert.DecRefIdeal.nD Cert.DecRefIdeal.τ).loc Cert.DecRefIdeal.main_arg8) = m' ((c.tc : Thread Cert.DecRefIdeal.nD Cert.DecRefIdeal.τ).loc Cert.DecRefIdeal.main_arg8)
          ∧ r.2.mem ((c.tc : Thread Cert.DecRefIdeal.nD Cert.DecRefIdeal.τ).loc Cert.DecRefIdeal.main_arg9) = m' ((c.tc : Thread Cert.DecRefIdeal.nD Cert.DecRefIdeal.τ).loc Cert.DecRefIdeal.main_arg9)
          ∧ r.2.mem ((c.tc : Thread Cert.DecRefIdeal.nD Cert.DecRefIdeal.τ).loc Cert.DecRefIdeal.main_arg10) = m' ((c.tc : Thread Cert.DecRefIdeal.nD Cert.DecRefIdeal.τ).loc Cert.DecRefIdeal.main_arg10)
          ∧ r.2.mem ((c.tc : Thread Cert.DecRefIdeal.nD Cert.DecRefIdeal.τ).loc Cert.DecRefIdeal.main_arg11) = m' ((c.tc : Thread Cert.DecRefIdeal.nD Cert.DecRefIdeal.τ).loc Cert.DecRefIdeal.main_arg11))

def preserves_MlpDec_MlpDecIdeal : Prop :=
  True

def algebraic_MlpDecIdeal_MlpDecRefIdeal [hMlpDecIdeal : Cert.MlpDecIdeal.Facts] [hMlpDecRefIdeal : Cert.MlpDecRefIdeal.Facts] : Prop :=
  ∀ (m : (ℓ : Loc Cert.MlpDecIdeal.nD Cert.MlpDecIdeal.τ Cert.MlpDecIdeal.sig) → Buf (Elt Ideal) ℓ) (g : Dev Cert.MlpDecIdeal.nD → PrngReg)
    (m' : (ℓ : Loc Cert.MlpDecRefIdeal.nD Cert.MlpDecRefIdeal.τ Cert.MlpDecRefIdeal.sig) → Buf (Elt Ideal) ℓ) (g' : Dev Cert.MlpDecRefIdeal.nD → PrngReg), Pre_MlpDecIdeal m →
    (∀ c : Dev Cert.MlpDecIdeal.nD,
      m' ((c.tc : Thread Cert.MlpDecRefIdeal.nD Cert.MlpDecRefIdeal.τ).loc Cert.MlpDecRefIdeal.main_arg0) = m ((c.tc : Thread Cert.MlpDecIdeal.nD Cert.MlpDecIdeal.τ).loc Cert.MlpDecIdeal.main_arg0)
      ∧ m' ((c.tc : Thread Cert.MlpDecRefIdeal.nD Cert.MlpDecRefIdeal.τ).loc Cert.MlpDecRefIdeal.main_arg1) = m ((c.tc : Thread Cert.MlpDecIdeal.nD Cert.MlpDecIdeal.τ).loc Cert.MlpDecIdeal.main_arg1)
      ∧ m' ((c.tc : Thread Cert.MlpDecRefIdeal.nD Cert.MlpDecRefIdeal.τ).loc Cert.MlpDecRefIdeal.main_arg2) = m ((c.tc : Thread Cert.MlpDecIdeal.nD Cert.MlpDecIdeal.τ).loc Cert.MlpDecIdeal.main_arg2)
      ∧ m' ((c.tc : Thread Cert.MlpDecRefIdeal.nD Cert.MlpDecRefIdeal.τ).loc Cert.MlpDecRefIdeal.main_arg3) = m ((c.tc : Thread Cert.MlpDecIdeal.nD Cert.MlpDecIdeal.τ).loc Cert.MlpDecIdeal.main_arg3)
      ∧ m' ((c.tc : Thread Cert.MlpDecRefIdeal.nD Cert.MlpDecRefIdeal.τ).loc Cert.MlpDecRefIdeal.main_arg4) = m ((c.tc : Thread Cert.MlpDecIdeal.nD Cert.MlpDecIdeal.τ).loc Cert.MlpDecIdeal.main_arg4)) →
    ∃ (v0 : (c : Dev Cert.MlpDecIdeal.nD) → Buf (Elt Ideal) ((c.tc : Thread Cert.MlpDecIdeal.nD Cert.MlpDecIdeal.τ).loc Cert.MlpDecIdeal.main_v4)),
      θ_run (Cert.MlpDecIdeal.defs (F := Ideal)) (onTc (τ := Cert.MlpDecIdeal.τ) (Cert.MlpDecIdeal.main (F := Ideal))) ⟨m, fun _ => 0, g⟩ (fun r => ∀ c : Dev Cert.MlpDecIdeal.nD,
          r.2.mem ((c.tc : Thread Cert.MlpDecIdeal.nD Cert.MlpDecIdeal.τ).loc Cert.MlpDecIdeal.main_v4) = v0 c
          ∧ r.2.mem ((c.tc : Thread Cert.MlpDecIdeal.nD Cert.MlpDecIdeal.τ).loc Cert.MlpDecIdeal.main_arg0) = m ((c.tc : Thread Cert.MlpDecIdeal.nD Cert.MlpDecIdeal.τ).loc Cert.MlpDecIdeal.main_arg0)
          ∧ r.2.mem ((c.tc : Thread Cert.MlpDecIdeal.nD Cert.MlpDecIdeal.τ).loc Cert.MlpDecIdeal.main_arg1) = m ((c.tc : Thread Cert.MlpDecIdeal.nD Cert.MlpDecIdeal.τ).loc Cert.MlpDecIdeal.main_arg1)
          ∧ r.2.mem ((c.tc : Thread Cert.MlpDecIdeal.nD Cert.MlpDecIdeal.τ).loc Cert.MlpDecIdeal.main_arg2) = m ((c.tc : Thread Cert.MlpDecIdeal.nD Cert.MlpDecIdeal.τ).loc Cert.MlpDecIdeal.main_arg2)
          ∧ r.2.mem ((c.tc : Thread Cert.MlpDecIdeal.nD Cert.MlpDecIdeal.τ).loc Cert.MlpDecIdeal.main_arg3) = m ((c.tc : Thread Cert.MlpDecIdeal.nD Cert.MlpDecIdeal.τ).loc Cert.MlpDecIdeal.main_arg3)
          ∧ r.2.mem ((c.tc : Thread Cert.MlpDecIdeal.nD Cert.MlpDecIdeal.τ).loc Cert.MlpDecIdeal.main_arg4) = m ((c.tc : Thread Cert.MlpDecIdeal.nD Cert.MlpDecIdeal.τ).loc Cert.MlpDecIdeal.main_arg4))
      ∧ θ_run (Cert.MlpDecRefIdeal.defs (F := Ideal)) (onTc (τ := Cert.MlpDecRefIdeal.τ) (Cert.MlpDecRefIdeal.main (F := Ideal))) ⟨m', fun _ => 0, g'⟩ (fun r => ∀ c : Dev Cert.MlpDecRefIdeal.nD,
          r.2.mem ((c.tc : Thread Cert.MlpDecRefIdeal.nD Cert.MlpDecRefIdeal.τ).loc Cert.MlpDecRefIdeal.main_v30) = v0 c
          ∧ r.2.mem ((c.tc : Thread Cert.MlpDecRefIdeal.nD Cert.MlpDecRefIdeal.τ).loc Cert.MlpDecRefIdeal.main_arg0) = m' ((c.tc : Thread Cert.MlpDecRefIdeal.nD Cert.MlpDecRefIdeal.τ).loc Cert.MlpDecRefIdeal.main_arg0)
          ∧ r.2.mem ((c.tc : Thread Cert.MlpDecRefIdeal.nD Cert.MlpDecRefIdeal.τ).loc Cert.MlpDecRefIdeal.main_arg1) = m' ((c.tc : Thread Cert.MlpDecRefIdeal.nD Cert.MlpDecRefIdeal.τ).loc Cert.MlpDecRefIdeal.main_arg1)
          ∧ r.2.mem ((c.tc : Thread Cert.MlpDecRefIdeal.nD Cert.MlpDecRefIdeal.τ).loc Cert.MlpDecRefIdeal.main_arg2) = m' ((c.tc : Thread Cert.MlpDecRefIdeal.nD Cert.MlpDecRefIdeal.τ).loc Cert.MlpDecRefIdeal.main_arg2)
          ∧ r.2.mem ((c.tc : Thread Cert.MlpDecRefIdeal.nD Cert.MlpDecRefIdeal.τ).loc Cert.MlpDecRefIdeal.main_arg3) = m' ((c.tc : Thread Cert.MlpDecRefIdeal.nD Cert.MlpDecRefIdeal.τ).loc Cert.MlpDecRefIdeal.main_arg3)
          ∧ r.2.mem ((c.tc : Thread Cert.MlpDecRefIdeal.nD Cert.MlpDecRefIdeal.τ).loc Cert.MlpDecRefIdeal.main_arg4) = m' ((c.tc : Thread Cert.MlpDecRefIdeal.nD Cert.MlpDecRefIdeal.τ).loc Cert.MlpDecRefIdeal.main_arg4))

def Claim : Prop :=
  ∃ (hMlp : Cert.Mlp.Facts) (hMlpIdeal : Cert.MlpIdeal.Facts) (hMlpRefIdeal : Cert.MlpRefIdeal.Facts) (hPrompt : Cert.Prompt.Facts) (hPromptIdeal : Cert.PromptIdeal.Facts) (hPromptRefIdeal : Cert.PromptRefIdeal.Facts) (hDec : Cert.Dec.Facts) (hDecIdeal : Cert.DecIdeal.Facts) (hDecRefIdeal : Cert.DecRefIdeal.Facts) (hMlpDec : Cert.MlpDec.Facts) (hMlpDecIdeal : Cert.MlpDecIdeal.Facts) (hMlpDecRefIdeal : Cert.MlpDecRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Dec (hDec := hDec)
    ∧ quiescent_DecIdeal (hDecIdeal := hDecIdeal)
    ∧ quiescent_DecRefIdeal (hDecRefIdeal := hDecRefIdeal)
    ∧ quiescent_MlpDec (hMlpDec := hMlpDec)
    ∧ quiescent_MlpDecIdeal (hMlpDecIdeal := hMlpDecIdeal)
    ∧ quiescent_MlpDecRefIdeal (hMlpDecRefIdeal := hMlpDecRefIdeal)
    ∧ preserves_Mlp_MlpIdeal
    ∧ algebraic_MlpIdeal_MlpRefIdeal (hMlpIdeal := hMlpIdeal) (hMlpRefIdeal := hMlpRefIdeal)
    ∧ preserves_Prompt_PromptIdeal
    ∧ algebraic_PromptIdeal_PromptRefIdeal (hPromptIdeal := hPromptIdeal) (hPromptRefIdeal := hPromptRefIdeal)
    ∧ preserves_Dec_DecIdeal
    ∧ algebraic_DecIdeal_DecRefIdeal (hDecIdeal := hDecIdeal) (hDecRefIdeal := hDecRefIdeal)
    ∧ preserves_MlpDec_MlpDecIdeal
    ∧ algebraic_MlpDecIdeal_MlpDecRefIdeal (hMlpDecIdeal := hMlpDecIdeal) (hMlpDecRefIdeal := hMlpDecRefIdeal)
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Prompt.lean ====
abbrev S2x8192x1024 : Shape := ⟨3, ![2, 8192, 1024]⟩
abbrev S2x8192x512 : Shape := ⟨3, ![2, 8192, 512]⟩
abbrev S1024 : Shape := ⟨1, ![1024]⟩
abbrev S1024x4888 : Shape := ⟨2, ![1024, 4888]⟩
abbrev S3x512 : Shape := ⟨2, ![3, 512]⟩
abbrev S512 : Shape := ⟨1, ![512]⟩
abbrev S512x1024 : Shape := ⟨2, ![512, 1024]⟩
abbrev S1024x1024 : Shape := ⟨2, ![1024, 1024]⟩
abbrev S2x4x64x1024 : Shape := ⟨4, ![2, 4, 64, 1024]⟩
abbrev S4x2x64x1024 : Shape := ⟨4, ![4, 2, 64, 1024]⟩
abbrev S16384x1024 : Shape := ⟨2, ![16384, 1024]⟩
abbrev S1x1024 : Shape := ⟨2, ![1, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x768 : Shape := ⟨2, ![1024, 768]⟩
abbrev S1024x24 : Shape := ⟨2, ![1024, 24]⟩
abbrev S_ : Shape := ⟨0, ![]⟩
abbrev S1024x128 : Shape := ⟨2, ![1024, 128]⟩
abbrev S1024x3584 : Shape := ⟨2, ![1024, 3584]⟩
abbrev S1024x4992 : Shape := ⟨2, ![1024, 4992]⟩
abbrev S16384x512 : Shape := ⟨2, ![16384, 512]⟩
abbrev S16384x128 : Shape := ⟨2, ![16384, 128]⟩
abbrev S2x2x64x8192 : Shape := ⟨4, ![2, 2, 64, 8192]⟩
abbrev S16384x768 : Shape := ⟨2, ![16384, 768]⟩
abbrev S16384x1536 : Shape := ⟨2, ![16384, 1536]⟩
abbrev S16384x2048 : Shape := ⟨2, ![16384, 2048]⟩
abbrev S512x512 : Shape := ⟨2, ![512, 512]⟩
abbrev S512x128 : Shape := ⟨2, ![512, 128]⟩
abbrev S1x2x64x512 : Shape := ⟨4, ![1, 2, 64, 512]⟩
abbrev S512x768 : Shape := ⟨2, ![512, 768]⟩
abbrev S512x1536 : Shape := ⟨2, ![512, 1536]⟩
abbrev S512x2048 : Shape := ⟨2, ![512, 2048]⟩
abbrev S512x1 : Shape := ⟨2, ![512, 1]⟩
abbrev S128x512 : Shape := ⟨2, ![128, 512]⟩
abbrev S2x64x512 : Shape := ⟨3, ![2, 64, 512]⟩
abbrev S1024x1536 : Shape := ⟨2, ![1024, 1536]⟩
abbrev S1024x2048 : Shape := ⟨2, ![1024, 2048]⟩
abbrev S1x512 : Shape := ⟨2, ![1, 512]⟩
abbrev S2x8x512 : Shape := ⟨3, ![2, 8, 512]⟩
abbrev S8x1536 : Shape := ⟨2, ![8, 1536]⟩
abbrev S1x8x512 : Shape := ⟨3, ![1, 8, 512]⟩
abbrev S8x512 : Shape := ⟨2, ![8, 512]⟩

abbrev nBuf : Space → Nat
  | .hbm => 47
  | .vmem => 49
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S1024, .f32⟩
  | .hbm, ⟨3, _⟩ => ⟨S1024x4888, .f32⟩
  | .hbm, ⟨4, _⟩ => ⟨S3x512, .f32⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x4x64x1024, .f32⟩
  | .hbm, ⟨10, _⟩ => ⟨S4x2x64x1024, .f32⟩
  | .hbm, ⟨11, _⟩ => ⟨S512x1024, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S16384x1024, .f32⟩
  | .hbm, ⟨16, _⟩ => ⟨S1x1024, .f32⟩
  | .hbm, ⟨17, _⟩ => ⟨S1024x512, .f32⟩
  | .hbm, ⟨18, _⟩ => ⟨S1024x2x4x64, .f32⟩
  | .hbm, ⟨19, _⟩ => ⟨S1024x4x2x64, .f32⟩
  | .hbm, ⟨20, _⟩ => ⟨S1024x512, .f32⟩
  | .hbm, ⟨21, _⟩ => ⟨S1024x768, .f32⟩
  | .hbm, ⟨22, _⟩ => ⟨S1024x24, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x3584, .f32⟩
  | .hbm, ⟨27, _⟩ => ⟨S1024x4992, .f32⟩
  | .hbm, ⟨28, _⟩ => ⟨S1024x4992, .bf16⟩
  | .hbm, ⟨29, _⟩ => ⟨S16384x512, .bf16⟩
  | .hbm, ⟨30, _⟩ => ⟨S16384x128, .f32⟩
  | .hbm, ⟨31, _⟩ => ⟨S16384x128, .f32⟩
  | .hbm, ⟨32, _⟩ => ⟨S2x2x64x8192, .f32⟩
  | .hbm, ⟨33, _⟩ => ⟨S2x2x64x8192, .f32⟩
  | .hbm, ⟨34, _⟩ => ⟨S2x2x64x8192, .f32⟩
  | .hbm, ⟨35, _⟩ => ⟨S2x2x64x8192, .f32⟩
  | .hbm, ⟨36, _⟩ => ⟨S2x2x64x8192, .f32⟩
  | .hbm, ⟨37, _⟩ => ⟨S2x2x64x8192, .f32⟩
  | .hbm, ⟨38, _⟩ => ⟨S16384x768, .bf16⟩
  | .hbm, ⟨39, _⟩ => ⟨S16384x128, .f32⟩
  | .hbm, ⟨40, _⟩ => ⟨S16384x1536, .f32⟩
  | .hbm, ⟨41, _⟩ => ⟨S16384x2048, .f32⟩
  | .hbm, ⟨42, _⟩ => ⟨S16384x1024, .f32⟩
  | .hbm, ⟨43, _⟩ => ⟨S16384x512, .bf16⟩
  | .hbm, ⟨44, _⟩ => ⟨S1x512, .f32⟩
  | .hbm, ⟨45, _⟩ => ⟨S16384x1024, .f32⟩
  | .hbm, ⟨46, _⟩ => ⟨S2x8x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4992, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x2x64x512, .f32⟩
  | .local _ .vmem, ⟨11, _⟩ => ⟨S1x2x64x512, .f32⟩
  | .local _ .vmem, ⟨12, _⟩ => ⟨S1x2x64x512, .f32⟩
  | .local _ .vmem, ⟨13, _⟩ => ⟨S1x2x64x512, .f32⟩
  | .local _ .vmem, ⟨14, _⟩ => ⟨S1x2x64x512, .f32⟩
  | .local _ .vmem, ⟨15, _⟩ => ⟨S1x2x64x512, .f32⟩
  | .local _ .vmem, ⟨16, _⟩ => ⟨S1x2x64x512, .f32⟩
  | .local _ .vmem, ⟨17, _⟩ => ⟨S1x2x64x512, .f32⟩
  | .local _ .vmem, ⟨18, _⟩ => ⟨S1x2x64x512, .f32⟩
  | .local _ .vmem, ⟨19, _⟩ => ⟨S1x2x64x512, .f32⟩
  | .local _ .vmem, ⟨20, _⟩ => ⟨S1x2x64x512, .f32⟩
  | .local _ .vmem, ⟨21, _⟩ => ⟨S1x2x64x512, .f32⟩
  | .local _ .vmem, ⟨22, _⟩ => ⟨S512x768, .bf16⟩
  | .local _ .vmem, ⟨23, _⟩ => ⟨S512x768, .bf16⟩
  | .local _ .vmem, ⟨24, _⟩ => ⟨S512x128, .f32⟩
  | .local _ .vmem, ⟨25, _⟩ => ⟨S512x128, .f32⟩
  | .local _ .vmem, ⟨26, _⟩ => ⟨S512x1536, .f32⟩
  | .local _ .vmem, ⟨27, _⟩ => ⟨S512x1536, .f32⟩
  | .local _ .vmem, ⟨28, _⟩ => ⟨S512x2048, .f32⟩
  | .local _ .vmem, ⟨29, _⟩ => ⟨S512x2048, .f32⟩
  | .local _ .vmem, ⟨30, _⟩ => ⟨S512x1024, .f32⟩
  | .local _ .vmem, ⟨31, _⟩ => ⟨S512x1024, .f32⟩
  | .local _ .vmem, ⟨32, _⟩ => ⟨S512x512, .bf16⟩
  | .local _ .vmem, ⟨33, _⟩ => ⟨S512x512, .bf16⟩
  | .local _ .vmem, ⟨34, _⟩ => ⟨S512x1536, .f32⟩
  | .local _ .vmem, ⟨35, _⟩ => ⟨S512x1536, .f32⟩
  | .local _ .vmem, ⟨36, _⟩ => ⟨S8x1536, .f32⟩
  | .local _ .vmem, ⟨37, _⟩ => ⟨S8x1536, .f32⟩
  | .local _ .vmem, ⟨38, _⟩ => ⟨S512x2048, .f32⟩
  | .local _ .vmem, ⟨39, _⟩ => ⟨S512x2048, .f32⟩
  | .local _ .vmem, ⟨40, _⟩ => ⟨S3x512, .f32⟩
  | .local _ .vmem, ⟨41, _⟩ => ⟨S1x512, .f32⟩
  | .local _ .vmem, ⟨42, _⟩ => ⟨S512x1024, .bf16⟩
  | .local _ .vmem, ⟨43, _⟩ => ⟨S512x1024, .bf16⟩
  | .local _ .vmem, ⟨44, _⟩ => ⟨S1024x1024, .bf16⟩
  | .local _ .vmem, ⟨45, _⟩ => ⟨S512x1024, .f32⟩
  | .local _ .vmem, ⟨46, _⟩ => ⟨S512x1024, .f32⟩
  | .local _ .vmem, ⟨47, _⟩ => ⟨S1x8x512, .f32⟩
  | .local _ .vmem, ⟨48, _⟩ => ⟨S1x8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev main_v18_8 : Ref sig .tc := ⟨.hbm, 37, rfl⟩
abbrev main_v18_9 : Ref sig .tc := ⟨.hbm, 38, rfl⟩
abbrev main_v18_10 : Ref sig .tc := ⟨.hbm, 39, rfl⟩
abbrev main_v18_11 : Ref sig .tc := ⟨.hbm, 40, rfl⟩
abbrev main_v18_12 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg6_0 : Ref sig .tc := ⟨.vmem, 41, rfl⟩
abbrev cc1_stg7_0 : Ref sig .tc := ⟨.vmem, 42, rfl⟩
abbrev cc1_stg8_0 : Ref sig .tc := ⟨.vmem, 43, rfl⟩
abbrev cc1_stg9_0 : Ref sig .tc := ⟨.vmem, 44, rfl⟩
abbrev cc1_stg10_0 : Ref sig .tc := ⟨.vmem, 45, rfl⟩
abbrev cc1_stg10_1 : Ref sig .tc := ⟨.vmem, 46, rfl⟩
abbrev cc1_stg11_0 : Ref sig .tc := ⟨.vmem, 47, rfl⟩
abbrev cc1_stg11_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem6_0 : DmaSem sig := 41
abbrev cc1_sem7_0 : DmaSem sig := 42
abbrev cc1_sem8_0 : DmaSem sig := 43
abbrev cc1_sem9_0 : DmaSem sig := 44
abbrev cc1_sem10_0 : DmaSem sig := 45
abbrev cc1_sem10_1 : DmaSem sig := 46
abbrev cc1_sem11_0 : DmaSem sig := 47
abbrev cc1_sem11_1 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== PromptRefIdeal.lean ====
abbrev S2x8192x1024 : Shape := ⟨3, ![2, 8192, 1024]⟩
abbrev S2x8192x512 : Shape := ⟨3, ![2, 8192, 512]⟩
abbrev S1024 : Shape := ⟨1, ![1024]⟩
abbrev S1024x4888 : Shape := ⟨2, ![1024, 4888]⟩
abbrev S3x512 : Shape := ⟨2, ![3, 512]⟩
abbrev S512 : Shape := ⟨1, ![512]⟩
abbrev S512x1024 : Shape := ⟨2, ![512, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4888 : Shape := ⟨3, ![2, 8192, 4888]⟩
abbrev S2x8192x128 : Shape := ⟨3, ![2, 8192, 128]⟩
abbrev S2x8192x24 : Shape := ⟨3, ![2, 8192, 24]⟩
abbrev S2x8192x4x2x64 : Shape := ⟨5, ![2, 8192, 4, 2, 64]⟩
abbrev S2x8192x2x4x64 : Shape := ⟨5, ![2, 8192, 2, 4, 64]⟩
abbrev S2x2x512 : Shape := ⟨3, ![2, 2, 512]⟩
abbrev S2x8194x512 : Shape := ⟨3, ![2, 8194, 512]⟩
abbrev S1x512 : Shape := ⟨2, ![1, 512]⟩
abbrev S1x1x512 : Shape := ⟨3, ![1, 1, 512]⟩
abbrev S16384x2x4x64 : Shape := ⟨4, ![16384, 2, 4, 64]⟩
abbrev S16384x4x2x64 : Shape := ⟨4, ![16384, 4, 2, 64]⟩
abbrev S16384x512 : Shape := ⟨2, ![16384, 512]⟩
abbrev S16384x128 : Shape := ⟨2, ![16384, 128]⟩
abbrev S2x8192x2x64 : Shape := ⟨4, ![2, 8192, 2, 64]⟩
abbrev S2x2x64x8192 : Shape := ⟨4, ![2, 2, 64, 8192]⟩
abbrev S2x8192x768 : Shape := ⟨3, ![2, 8192, 768]⟩
abbrev S16384x768 : Shape := ⟨2, ![16384, 768]⟩
abbrev S16384x24 : Shape := ⟨2, ![16384, 24]⟩
abbrev S16384x1024 : Shape := ⟨2, ![16384, 1024]⟩
abbrev S2x8x512 : Shape := ⟨3, ![2, 8, 512]⟩

abbrev nBuf : Space → Nat
  | .hbm => 121
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S1024, .f32⟩
  | .hbm, ⟨3, _⟩ => ⟨S1024x4888, .f32⟩
  | .hbm, ⟨4, _⟩ => ⟨S3x512, .f32⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x4888, .f32⟩
  | .hbm, ⟨26, _⟩ => ⟨S2x8192x512, .f32⟩
  | .hbm, ⟨27, _⟩ => ⟨S2x8192x128, .f32⟩
  | .hbm, ⟨28, _⟩ => ⟨S2x8192x128, .f32⟩
  | .hbm, ⟨29, _⟩ => ⟨S2x8192x128, .f32⟩
  | .hbm, ⟨30, _⟩ => ⟨S2x8192x128, .f32⟩
  | .hbm, ⟨31, _⟩ => ⟨S2x8192x128, .f32⟩
  | .hbm, ⟨32, _⟩ => ⟨S2x8192x128, .f32⟩
  | .hbm, ⟨33, _⟩ => ⟨S2x8192x24, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x1024, .f32⟩
  | .hbm, ⟨38, _⟩ => ⟨S2x8192x1024, .f32⟩
  | .hbm, ⟨39, _⟩ => ⟨S2x8192x512, .f32⟩
  | .hbm, ⟨40, _⟩ => ⟨S2x8192x4x2x64, .f32⟩
  | .hbm, ⟨41, _⟩ => ⟨S2x8192x2x4x64, .f32⟩
  | .hbm, ⟨42, _⟩ => ⟨S2x8192x512, .f32⟩
  | .hbm, ⟨43, _⟩ => ⟨S_, .f32⟩
  | .hbm, ⟨44, _⟩ => ⟨S2x2x512, .f32⟩
  | .hbm, ⟨45, _⟩ => ⟨S2x8192x512, .f32⟩
  | .hbm, ⟨46, _⟩ => ⟨S2x8194x512, .f32⟩
  | .hbm, ⟨47, _⟩ => ⟨S1x512, .f32⟩
  | .hbm, ⟨48, _⟩ => ⟨S512, .f32⟩
  | .hbm, ⟨49, _⟩ => ⟨S2x8192x512, .f32⟩
  | .hbm, ⟨50, _⟩ => ⟨S1x1x512, .f32⟩
  | .hbm, ⟨51, _⟩ => ⟨S2x8192x512, .f32⟩
  | .hbm, ⟨52, _⟩ => ⟨S2x8192x512, .f32⟩
  | .hbm, ⟨53, _⟩ => ⟨S1x1x512, .f32⟩
  | .hbm, ⟨54, _⟩ => ⟨S2x8192x512, .f32⟩
  | .hbm, ⟨55, _⟩ => ⟨S2x8192x512, .f32⟩
  | .hbm, ⟨56, _⟩ => ⟨S1x512, .f32⟩
  | .hbm, ⟨57, _⟩ => ⟨S512, .f32⟩
  | .hbm, ⟨58, _⟩ => ⟨S2x8192x512, .f32⟩
  | .hbm, ⟨59, _⟩ => ⟨S1x1x512, .f32⟩
  | .hbm, ⟨60, _⟩ => ⟨S2x8192x512, .f32⟩
  | .hbm, ⟨61, _⟩ => ⟨S2x8192x512, .f32⟩
  | .hbm, ⟨62, _⟩ => ⟨S2x8192x512, .f32⟩
  | .hbm, ⟨63, _⟩ => ⟨S1x512, .f32⟩
  | .hbm, ⟨64, _⟩ => ⟨S512, .f32⟩
  | .hbm, ⟨65, _⟩ => ⟨S2x8192x512, .f32⟩
  | .hbm, ⟨66, _⟩ => ⟨S1x1x512, .f32⟩
  | .hbm, ⟨67, _⟩ => ⟨S2x8192x512, .f32⟩
  | .hbm, ⟨68, _⟩ => ⟨S2x8192x512, .f32⟩
  | .hbm, ⟨69, _⟩ => ⟨S2x8192x512, .f32⟩
  | .hbm, ⟨70, _⟩ => ⟨S2x8192x512, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S_, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S16384x2x4x64, .f32⟩
  | .hbm, ⟨95, _⟩ => ⟨S16384x4x2x64, .f32⟩
  | .hbm, ⟨96, _⟩ => ⟨S16384x512, .f32⟩
  | .hbm, ⟨97, _⟩ => ⟨S16384x512, .bf16⟩
  | .hbm, ⟨98, _⟩ => ⟨S16384x128, .f32⟩
  | .hbm, ⟨99, _⟩ => ⟨S16384x128, .f32⟩
  | .hbm, ⟨100, _⟩ => ⟨S2x8192x2x64, .f32⟩
  | .hbm, ⟨101, _⟩ => ⟨S2x2x64x8192, .f32⟩
  | .hbm, ⟨102, _⟩ => ⟨S2x8192x2x64, .f32⟩
  | .hbm, ⟨103, _⟩ => ⟨S2x2x64x8192, .f32⟩
  | .hbm, ⟨104, _⟩ => ⟨S2x8192x2x64, .f32⟩
  | .hbm, ⟨105, _⟩ => ⟨S2x2x64x8192, .f32⟩
  | .hbm, ⟨106, _⟩ => ⟨S2x8192x2x64, .f32⟩
  | .hbm, ⟨107, _⟩ => ⟨S2x2x64x8192, .f32⟩
  | .hbm, ⟨108, _⟩ => ⟨S2x8192x2x64, .f32⟩
  | .hbm, ⟨109, _⟩ => ⟨S2x2x64x8192, .f32⟩
  | .hbm, ⟨110, _⟩ => ⟨S2x8192x2x64, .f32⟩
  | .hbm, ⟨111, _⟩ => ⟨S2x2x64x8192, .f32⟩
  | .hbm, ⟨112, _⟩ => ⟨S2x8192x768, .f32⟩
  | .hbm, ⟨113, _⟩ => ⟨S16384x768, .f32⟩
  | .hbm, ⟨114, _⟩ => ⟨S16384x768, .bf16⟩
  | .hbm, ⟨115, _⟩ => ⟨S16384x24, .f32⟩
  | .hbm, ⟨116, _⟩ => ⟨S_, .i32⟩
  | .hbm, ⟨117, _⟩ => ⟨S_, .f32⟩
  | .hbm, ⟨118, _⟩ => ⟨S16384x128, .f32⟩
  | .hbm, ⟨119, _⟩ => ⟨S16384x1024, .f32⟩
  | .hbm, ⟨120, _⟩ => ⟨S2x8x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_3 : Ref sig .tc := ⟨.hbm, 73, rfl⟩
abbrev main_v60 : Ref sig .tc := ⟨.hbm, 74, rfl⟩
abbrev main_v61 : Ref sig .tc := ⟨.hbm, 75, rfl⟩
abbrev main_cst_4 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_c : Ref sig .tc := ⟨.hbm, 116, rfl⟩
abbrev main_call0_v0 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== Dec.lean ====
abbrev S32x4x1024 : Shape := ⟨3, ![32, 4, 1024]⟩
abbrev S32x512x2x64 : Shape := ⟨4, ![32, 512, 2, 64]⟩
abbrev S32x2x512 : Shape := ⟨3, ![32, 2, 512]⟩
abbrev S32x2x4x8x64 : Shape := ⟨5, ![32, 2, 4, 8, 64]⟩
abbrev S1024 : Shape := ⟨1, ![1024]⟩
abbrev S1024x4888 : Shape := ⟨2, ![1024, 4888]⟩
abbrev S3x512 : Shape := ⟨2, ![3, 512]⟩
abbrev S512 : Shape := ⟨1, ![512]⟩
abbrev S512x1024 : Shape := ⟨2, ![512, 1024]⟩
abbrev S1024x1024 : Shape := ⟨2, ![1024, 1024]⟩
abbrev S2x4x64x1024 : Shape := ⟨4, ![2, 4, 64, 1024]⟩
abbrev S4x2x64x1024 : Shape := ⟨4, ![4, 2, 64, 1024]⟩
abbrev S128x1024 : Shape := ⟨2, ![128, 1024]⟩
abbrev S1x1024 : Shape := ⟨2, ![1, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x768 : Shape := ⟨2, ![1024, 768]⟩
abbrev S1024x24 : Shape := ⟨2, ![1024, 24]⟩
abbrev S_ : Shape := ⟨0, ![]⟩
abbrev S1024x128 : Shape := ⟨2, ![1024, 128]⟩
abbrev S1024x3584 : Shape := ⟨2, ![1024, 3584]⟩
abbrev S1024x4992 : Shape := ⟨2, ![1024, 4992]⟩
abbrev S128x512 : Shape := ⟨2, ![128, 512]⟩
abbrev S128x128 : Shape := ⟨2, ![128, 128]⟩
abbrev S128x768 : Shape := ⟨2, ![128, 768]⟩
abbrev S128x1536 : Shape := ⟨2, ![128, 1536]⟩
abbrev S128x2048 : Shape := ⟨2, ![128, 2048]⟩
abbrev S128 : Shape := ⟨1, ![128]⟩
abbrev S128x1 : Shape := ⟨2, ![128, 1]⟩
abbrev S1024x1536 : Shape := ⟨2, ![1024, 1536]⟩
abbrev S1024x2048 : Shape := ⟨2, ![1024, 2048]⟩
abbrev S32x2x4x4x64 : Shape := ⟨5, ![32, 2, 4, 4, 64]⟩
abbrev S4x32x4x2x64 : Shape := ⟨5, ![4, 32, 4, 2, 64]⟩
abbrev S2x32x512 : Shape := ⟨3, ![2, 32, 512]⟩
abbrev S64x512 : Shape := ⟨2, ![64, 512]⟩
abbrev S4x32x1024 : Shape := ⟨3, ![4, 32, 1024]⟩
abbrev S32x4x1536 : Shape := ⟨3, ![32, 4, 1536]⟩
abbrev S4x32x1536 : Shape := ⟨3, ![4, 32, 1536]⟩
abbrev S32x4x2048 : Shape := ⟨3, ![32, 4, 2048]⟩
abbrev S4x32x2048 : Shape := ⟨3, ![4, 32, 2048]⟩
abbrev S1x512 : Shape := ⟨2, ![1, 512]⟩
abbrev S192x512 : Shape := ⟨2, ![192, 512]⟩
abbrev S32x4x2x64 : Shape := ⟨4, ![32, 4, 2, 64]⟩
abbrev S32x516x2x64 : Shape := ⟨4, ![32, 516, 2, 64]⟩

abbrev nBuf : Space → Nat
  | .hbm => 71
  | .vmem => 26
  | .smem => 0
  | _ => 0

abbrev bufTy : (tb : Table) → Fin (tcTables nBuf tb) → BufTy
  | .hbm, ⟨0, _⟩ => ⟨S32x4x1024, .f32⟩
  | .hbm, ⟨1, _⟩ => ⟨S32x512x2x64, .f32⟩
  | .hbm, ⟨2, _⟩ => ⟨S32x512x2x64, .f32⟩
  | .hbm, ⟨3, _⟩ => ⟨S32x2x512, .f32⟩
  | .hbm, ⟨4, _⟩ => ⟨S32x2x4x8x64, .f32⟩
  | .hbm, ⟨5, _⟩ => ⟨S1024, .f32⟩
  | .hbm, ⟨6, _⟩ => ⟨S1024x4888, .f32⟩
  | .hbm, ⟨7, _⟩ => ⟨S3x512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S2x4x64x1024, .f32⟩
  | .hbm, ⟨13, _⟩ => ⟨S4x2x64x1024, .f32⟩
  | .hbm, ⟨14, _⟩ => ⟨S512x1024, .f32⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S128x1024, .f32⟩
  | .hbm, ⟨19, _⟩ => ⟨S1x1024, .f32⟩
  | .hbm, ⟨20, _⟩ => ⟨S1024x512, .f32⟩
  | .hbm, ⟨21, _⟩ => ⟨S1024x2x4x64, .f32⟩
  | .hbm, ⟨22, _⟩ => ⟨S1024x4x2x64, .f32⟩
  | .hbm, ⟨23, _⟩ => ⟨S1024x512, .f32⟩
  | .hbm, ⟨24, _⟩ => ⟨S1024x768, .f32⟩
  | .hbm, ⟨25, _⟩ => ⟨S1024x24, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x3584, .f32⟩
  | .hbm, ⟨30, _⟩ => ⟨S1024x4992, .f32⟩
  | .hbm, ⟨31, _⟩ => ⟨S1024x4992, .bf16⟩
  | .hbm, ⟨32, _⟩ => ⟨S128x512, .bf16⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x768, .bf16⟩
  | .hbm, ⟨40, _⟩ => ⟨S128x128, .f32⟩
  | .hbm, ⟨41, _⟩ => ⟨S128x1536, .f32⟩
  | .hbm, ⟨42, _⟩ => ⟨S128x2048, .f32⟩
  | .hbm, ⟨43, _⟩ => ⟨S32x2x4x4x64, .f32⟩
  | .hbm, ⟨44, _⟩ => ⟨S4x32x4x2x64, .f32⟩
  | .hbm, ⟨45, _⟩ => ⟨S128x512, .f32⟩
  | .hbm, ⟨46, _⟩ => ⟨S2x32x512, .f32⟩
  | .hbm, ⟨47, _⟩ => ⟨S64x512, .f32⟩
  | .hbm, ⟨48, _⟩ => ⟨S4x32x1024, .f32⟩
  | .hbm, ⟨49, _⟩ => ⟨S128x1024, .f32⟩
  | .hbm, ⟨50, _⟩ => ⟨S32x4x1536, .f32⟩
  | .hbm, ⟨51, _⟩ => ⟨S4x32x1536, .f32⟩
  | .hbm, ⟨52, _⟩ => ⟨S128x1536, .f32⟩
  | .hbm, ⟨53, _⟩ => ⟨S32x4x2048, .f32⟩
  | .hbm, ⟨54, _⟩ => ⟨S4x32x2048, .f32⟩
  | .hbm, ⟨55, _⟩ => ⟨S128x2048, .f32⟩
  | .hbm, ⟨56, _⟩ => ⟨S1x512, .f32⟩
  | .hbm, ⟨57, _⟩ => ⟨S128x1024, .f32⟩
  | .hbm, ⟨58, _⟩ => ⟨S64x512, .f32⟩
  | .hbm, ⟨59, _⟩ => ⟨S32x4x2x64, .f32⟩
  | .hbm, ⟨60, _⟩ => ⟨S32x516x2x64, .f32⟩
  | .hbm, ⟨61, _⟩ => ⟨S32x512x2x64, .f32⟩
  | .hbm, ⟨62, _⟩ => ⟨S32x4x2x64, .f32⟩
  | .hbm, ⟨63, _⟩ => ⟨S32x516x2x64, .f32⟩
  | .hbm, ⟨64, _⟩ => ⟨S32x512x2x64, .f32⟩
  | .hbm, ⟨65, _⟩ => ⟨S32x4x2x64, .f32⟩
  | .hbm, ⟨66, _⟩ => ⟨S32x4x2x64, .f32⟩
  | .hbm, ⟨67, _⟩ => ⟨S32x4x2x64, .f32⟩
  | .hbm, ⟨68, _⟩ => ⟨S32x4x2x64, .f32⟩
  | .hbm, ⟨69, _⟩ => ⟨S2x32x512, .f32⟩
  | .hbm, ⟨70, _⟩ => ⟨S32x2x512, .f32⟩
  | .local _ .vmem, ⟨0, _⟩ => ⟨S128x1024, .f32⟩
  | .local _ .vmem, ⟨1, _⟩ => ⟨S1x1024, .f32⟩
  | .local _ .vmem, ⟨2, _⟩ => ⟨S1024x4992, .bf16⟩
  | .local _ .vmem, ⟨3, _⟩ => ⟨S128x512, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x768, .bf16⟩
  | .local _ .vmem, ⟨11, _⟩ => ⟨S128x128, .f32⟩
  | .local _ .vmem, ⟨12, _⟩ => ⟨S128x1536, .f32⟩
  | .local _ .vmem, ⟨13, _⟩ => ⟨S128x2048, .f32⟩
  | .local _ .vmem, ⟨14, _⟩ => ⟨S128x1024, .f32⟩
  | .local _ .vmem, ⟨15, _⟩ => ⟨S128x512, .f32⟩
  | .local _ .vmem, ⟨16, _⟩ => ⟨S128x1536, .f32⟩
  | .local _ .vmem, ⟨17, _⟩ => ⟨S64x512, .f32⟩
  | .local _ .vmem, ⟨18, _⟩ => ⟨S128x2048, .f32⟩
  | .local _ .vmem, ⟨19, _⟩ => ⟨S3x512, .f32⟩
  | .local _ .vmem, ⟨20, _⟩ => ⟨S1x512, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S128x1024, .f32⟩
  | .local _ .vmem, ⟨25, _⟩ => ⟨S64x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v18_5 : Ref sig .tc := ⟨.hbm, 37, rfl⟩
abbrev main_v18_6 : Ref sig .tc := ⟨.hbm, 38, rfl⟩
abbrev main_v18_7 : Ref sig .tc := ⟨.hbm, 39, rfl⟩
abbrev main_v18_8 : Ref sig .tc := ⟨.hbm, 40, rfl⟩
abbrev main_v18_9 : Ref sig .tc := ⟨.hbm, 41, rfl⟩
abbrev main_v18_10 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== DecRefIdeal.lean ====
abbrev S32x4x1024 : Shape := ⟨3, ![32, 4, 1024]⟩
abbrev S32x512x2x64 : Shape := ⟨4, ![32, 512, 2, 64]⟩
abbrev S32x2x512 : Shape := ⟨3, ![32, 2, 512]⟩
abbrev S32x2x4x8x64 : Shape := ⟨5, ![32, 2, 4, 8, 64]⟩
abbrev S1024 : Shape := ⟨1, ![1024]⟩
abbrev S1024x4888 : Shape := ⟨2, ![1024, 4888]⟩
abbrev S3x512 : Shape := ⟨2, ![3, 512]⟩
abbrev S512 : Shape := ⟨1, ![512]⟩
abbrev S512x1024 : Shape := ⟨2, ![512, 1024]⟩
abbrev S1024x1024 : Shape := ⟨2, ![1024, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4888 : Shape := ⟨3, ![32, 4, 4888]⟩
abbrev S32x4x512 : Shape := ⟨3, ![32, 4, 512]⟩
abbrev S32x4x128 : Shape := ⟨3, ![32, 4, 128]⟩
abbrev S32x4x24 : Shape := ⟨3, ![32, 4, 24]⟩
abbrev S32x4x2x64 : Shape := ⟨4, ![32, 4, 2, 64]⟩
abbrev S32x516x2x64 : Shape := ⟨4, ![32, 516, 2, 64]⟩
abbrev S32x2x4x4x64 : Shape := ⟨5, ![32, 2, 4, 4, 64]⟩
abbrev S32x4x2x4x64 : Shape := ⟨5, ![32, 4, 2, 4, 64]⟩
abbrev S32x6x512 : Shape := ⟨3, ![32, 6, 512]⟩
abbrev S1x512 : Shape := ⟨2, ![1, 512]⟩
abbrev S1x1x512 : Shape := ⟨3, ![1, 1, 512]⟩
abbrev S128x2x4x64 : Shape := ⟨4, ![128, 2, 4, 64]⟩
abbrev S128x4x2x64 : Shape := ⟨4, ![128, 4, 2, 64]⟩
abbrev S128x512 : Shape := ⟨2, ![128, 512]⟩
abbrev S32x4x768 : Shape := ⟨3, ![32, 4, 768]⟩
abbrev S128x768 : Shape := ⟨2, ![128, 768]⟩
abbrev S128x24 : Shape := ⟨2, ![128, 24]⟩
abbrev S128x128 : Shape := ⟨2, ![128, 128]⟩
abbrev S4x32x1024 : Shape := ⟨3, ![4, 32, 1024]⟩
abbrev S128x1024 : Shape := ⟨2, ![128, 1024]⟩

abbrev nBuf : Space → Nat
  | .hbm => 118
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x512x2x64, .f32⟩
  | .hbm, ⟨2, _⟩ => ⟨S32x512x2x64, .f32⟩
  | .hbm, ⟨3, _⟩ => ⟨S32x2x512, .f32⟩
  | .hbm, ⟨4, _⟩ => ⟨S32x2x4x8x64, .f32⟩
  | .hbm, ⟨5, _⟩ => ⟨S1024, .f32⟩
  | .hbm, ⟨6, _⟩ => ⟨S1024x4888, .f32⟩
  | .hbm, ⟨7, _⟩ => ⟨S3x512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S32x4x1024, .f32⟩
  | .hbm, ⟨13, _⟩ => ⟨S_, .f32⟩
  | .hbm, ⟨14, _⟩ => ⟨S32x4, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S_, .f32⟩
  | .hbm, ⟨20, _⟩ => ⟨S32x4x1, .f32⟩
  | .hbm, ⟨21, _⟩ => ⟨S32x4x1, .f32⟩
  | .hbm, ⟨22, _⟩ => ⟨S32x4x1, .f32⟩
  | .hbm, ⟨23, _⟩ => ⟨S32x4x1024, .f32⟩
  | .hbm, ⟨24, _⟩ => ⟨S32x4x1024, .f32⟩
  | .hbm, ⟨25, _⟩ => ⟨S1x1x1024, .f32⟩
  | .hbm, ⟨26, _⟩ => ⟨S32x4x1024, .f32⟩
  | .hbm, ⟨27, _⟩ => ⟨S32x4x1024, .f32⟩
  | .hbm, ⟨28, _⟩ => ⟨S32x4x4888, .f32⟩
  | .hbm, ⟨29, _⟩ => ⟨S32x4x512, .f32⟩
  | .hbm, ⟨30, _⟩ => ⟨S32x4x128, .f32⟩
  | .hbm, ⟨31, _⟩ => ⟨S32x4x128, .f32⟩
  | .hbm, ⟨32, _⟩ => ⟨S32x4x128, .f32⟩
  | .hbm, ⟨33, _⟩ => ⟨S32x4x128, .f32⟩
  | .hbm, ⟨34, _⟩ => ⟨S32x4x128, .f32⟩
  | .hbm, ⟨35, _⟩ => ⟨S32x4x128, .f32⟩
  | .hbm, ⟨36, _⟩ => ⟨S32x4x24, .f32⟩
  | .hbm, ⟨37, _⟩ => ⟨S32x4x512, .f32⟩
  | .hbm, ⟨38, _⟩ => ⟨S32x4x512, .f32⟩
  | .hbm, ⟨39, _⟩ => ⟨S32x4x512, .f32⟩
  | .hbm, ⟨40, _⟩ => ⟨S32x4x1024, .f32⟩
  | .hbm, ⟨41, _⟩ => ⟨S32x4x1024, .f32⟩
  | .hbm, ⟨42, _⟩ => ⟨S32x4x2x64, .f32⟩
  | .hbm, ⟨43, _⟩ => ⟨S32x516x2x64, .f32⟩
  | .hbm, ⟨44, _⟩ => ⟨S32x4x2x64, .f32⟩
  | .hbm, ⟨45, _⟩ => ⟨S32x516x2x64, .f32⟩
  | .hbm, ⟨46, _⟩ => ⟨S32x2x4x4x64, .f32⟩
  | .hbm, ⟨47, _⟩ => ⟨S32x4x2x4x64, .f32⟩
  | .hbm, ⟨48, _⟩ => ⟨S32x4x512, .f32⟩
  | .hbm, ⟨49, _⟩ => ⟨S32x4x512, .f32⟩
  | .hbm, ⟨50, _⟩ => ⟨S32x6x512, .f32⟩
  | .hbm, ⟨51, _⟩ => ⟨S1x512, .f32⟩
  | .hbm, ⟨52, _⟩ => ⟨S512, .f32⟩
  | .hbm, ⟨53, _⟩ => ⟨S32x4x512, .f32⟩
  | .hbm, ⟨54, _⟩ => ⟨S1x1x512, .f32⟩
  | .hbm, ⟨55, _⟩ => ⟨S32x4x512, .f32⟩
  | .hbm, ⟨56, _⟩ => ⟨S32x4x512, .f32⟩
  | .hbm, ⟨57, _⟩ => ⟨S1x1x512, .f32⟩
  | .hbm, ⟨58, _⟩ => ⟨S32x4x512, .f32⟩
  | .hbm, ⟨59, _⟩ => ⟨S32x4x512, .f32⟩
  | .hbm, ⟨60, _⟩ => ⟨S1x512, .f32⟩
  | .hbm, ⟨61, _⟩ => ⟨S512, .f32⟩
  | .hbm, ⟨62, _⟩ => ⟨S32x4x512, .f32⟩
  | .hbm, ⟨63, _⟩ => ⟨S1x1x512, .f32⟩
  | .hbm, ⟨64, _⟩ => ⟨S32x4x512, .f32⟩
  | .hbm, ⟨65, _⟩ => ⟨S32x4x512, .f32⟩
  | .hbm, ⟨66, _⟩ => ⟨S32x4x512, .f32⟩
  | .hbm, ⟨67, _⟩ => ⟨S1x512, .f32⟩
  | .hbm, ⟨68, _⟩ => ⟨S512, .f32⟩
  | .hbm, ⟨69, _⟩ => ⟨S32x4x512, .f32⟩
  | .hbm, ⟨70, _⟩ => ⟨S1x1x512, .f32⟩
  | .hbm, ⟨71, _⟩ => ⟨S32x4x512, .f32⟩
  | .hbm, ⟨72, _⟩ => ⟨S32x4x512, .f32⟩
  | .hbm, ⟨73, _⟩ => ⟨S32x4x512, .f32⟩
  | .hbm, ⟨74, _⟩ => ⟨S32x4x512, .f32⟩
  | .hbm, ⟨75, _⟩ => ⟨S32x4x1024, .f32⟩
  | .hbm, ⟨76, _⟩ => ⟨S32x4x1024, .f32⟩
  | .hbm, ⟨77, _⟩ => ⟨S_, .f32⟩
  | .hbm, ⟨78, _⟩ => ⟨S32x4x1024, .f32⟩
  | .hbm, ⟨79, _⟩ => ⟨S32x4x1024, .f32⟩
  | .hbm, ⟨80, _⟩ => ⟨S_, .f32⟩
  | .hbm, ⟨81, _⟩ => ⟨S32x4x1024, .f32⟩
  | .hbm, ⟨82, _⟩ => ⟨S32x4x1024, .f32⟩
  | .hbm, ⟨83, _⟩ => ⟨S32x4x1024, .f32⟩
  | .hbm, ⟨84, _⟩ => ⟨S32x4x1024, .f32⟩
  | .hbm, ⟨85, _⟩ => ⟨S32x4x1024, .f32⟩
  | .hbm, ⟨86, _⟩ => ⟨S32x4x1024, .f32⟩
  | .hbm, ⟨87, _⟩ => ⟨S_, .f32⟩
  | .hbm, ⟨88, _⟩ => ⟨S32x4x1024, .f32⟩
  | .hbm, ⟨89, _⟩ => ⟨S32x4x1024, .f32⟩
  | .hbm, ⟨90, _⟩ => ⟨S_, .f32⟩
  | .hbm, ⟨91, _⟩ => ⟨S32x4x1024, .f32⟩
  | .hbm, ⟨92, _⟩ => ⟨S32x4x1024, .f32⟩
  | .hbm, ⟨93, _⟩ => ⟨S32x4x1024, .f32⟩
  | .hbm, ⟨94, _⟩ => ⟨S32x4x1024, .f32⟩
  | .hbm, ⟨95, _⟩ => ⟨S32x4x1024, .f32⟩
  | .hbm, ⟨96, _⟩ => ⟨S32x4x1024, .f32⟩
  | .hbm, ⟨97, _⟩ => ⟨S32x4x1024, .f32⟩
  | .hbm, ⟨98, _⟩ => ⟨S128x2x4x64, .f32⟩
  | .hbm, ⟨99, _⟩ => ⟨S128x4x2x64, .f32⟩
  | .hbm, ⟨100, _⟩ => ⟨S128x512, .f32⟩
  | .hbm, ⟨101, _⟩ => ⟨S128x512, .bf16⟩
  | .hbm, ⟨102, _⟩ => ⟨S32x4x768, .f32⟩
  | .hbm, ⟨103, _⟩ => ⟨S128x768, .f32⟩
  | .hbm, ⟨104, _⟩ => ⟨S128x768, .bf16⟩
  | .hbm, ⟨105, _⟩ => ⟨S128x24, .f32⟩
  | .hbm, ⟨106, _⟩ => ⟨S_, .i32⟩
  | .hbm, ⟨107, _⟩ => ⟨S_, .f32⟩
  | .hbm, ⟨108, _⟩ => ⟨S128x128, .f32⟩
  | .hbm, ⟨109, _⟩ => ⟨S4x32x1024, .f32⟩
  | .hbm, ⟨110, _⟩ => ⟨S128x1024, .f32⟩
  | .hbm, ⟨111, _⟩ => ⟨S32x4x2x64, .f32⟩
  | .hbm, ⟨112, _⟩ => ⟨S32x4x2x64, .f32⟩
  | .hbm, ⟨113, _⟩ => ⟨S32x4x2x64, .f32⟩
  | .hbm, ⟨114, _⟩ => ⟨S32x4x2x64, .f32⟩
  | .hbm, ⟨115, _⟩ => ⟨S32x512x2x64, .f32⟩
  | .hbm, ⟨116, _⟩ => ⟨S32x512x2x64, .f32⟩
  | .hbm, ⟨117, _⟩ => ⟨S32x2x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_2 : Ref sig .tc := ⟨.hbm, 77, rfl⟩
abbrev main_v62 : Ref sig .tc := ⟨.hbm, 78, rfl⟩
abbrev main_v63 : Ref sig .tc := ⟨.hbm, 79, rfl⟩
abbrev main_cst_3 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_4 : Ref sig .tc := ⟨.hbm, 87, rfl⟩
abbrev main_v70 : Ref sig .tc := ⟨.hbm, 88, rfl⟩
abbrev main_v71 : Ref sig .tc := ⟨.hbm, 89, rfl⟩
abbrev main_cst_5 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c : Ref sig .tc := ⟨.hbm, 106, rfl⟩
abbrev main_call0_v0 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩

abbrev nD : Nat := 1
abbrev τ : Topo := Topo.v7x

variable {F : FTy → Type} [FloatOps F]
-- ==== MlpDec.lean ====
abbrev S128x1024 : Shape := ⟨2, ![128, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S128 : Shape := ⟨1, ![128]⟩
abbrev S128x1 : Shape := ⟨2, ![128, 1]⟩
abbrev S64x1024 : Shape := ⟨2, ![64, 1024]⟩

abbrev nBuf : Space → Nat
  | .hbm => 10
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== MlpDecRefIdeal.lean ====
abbrev S128x1024 : Shape := ⟨2, ![128, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩

abbrev nBuf : Space → Nat
  | .hbm => 44
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x4096, .f32⟩
  | .hbm, ⟨22, _⟩ => ⟨S_, .f32⟩
  | .hbm, ⟨23, _⟩ => ⟨S128x4096, .f32⟩
  | .hbm, ⟨24, _⟩ => ⟨S128x4096, .f32⟩
  | .hbm, ⟨25, _⟩ => ⟨S128x4096, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x1024, .f32⟩
  | .hbm, ⟨40, _⟩ => ⟨S128x1024, .f32⟩
  | .hbm, ⟨41, _⟩ => ⟨S1x1024, .f32⟩
  | .hbm, ⟨42, _⟩ => ⟨S128x1024, .f32⟩
  | .hbm, ⟨43, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proof.Common.lean ====
/- The root mean square normalisation of one row, a projection of the normalised row, and the layer's hidden units on one row. -/
module

public import Idealize.ShloMosaic.PureOps.Ideal.Laws
public import Idealize.ShloMosaic.Lib.Pipeline.ValueKit

@[expose] public section

noncomputable section

open Idealize.ShloMosaic
open scoped BigOperators

namespace Cert.Layer

/-- Entry `l` of the row `v` scaled to unit mean square, times the gain `g`. -/
def rms (v g : Fin 1024 → EReal) (l : Fin 1024) : EReal :=
  v l * Ideal.rsqrt (Ideal.div (∑ k, v k * v k) (Ideal.ofBits .f32 0x44800000#32) + Ideal.ofBits .f32 0x358637BD#32) * g l

/-- The normalised row against a column of weights. -/
def proj (v g w : Fin 1024 → EReal) : EReal := ∑ k, rms v g k * w k

/-- What hidden units with weights `u` in and `d` out add to entry `l` of a row whose normalised entries are `h`. -/
def units {n : ℕ} (h : Fin 1024 → EReal) (u : Fin 1024 → Fin n → EReal) (d : Fin n → Fin 1024 → EReal) (l : Fin 1024) : EReal :=
  ∑ f : Fin n, max (∑ k : Fin 1024, h k * u k f) 0 * max (∑ k : Fin 1024, h k * u k f) 0 * d f l

/-- The part of them that one slab of 1024 of 4096 hidden units adds. -/
def slab (h : Fin 1024 → EReal) (u : Fin 1024 → Fin 4096 → EReal) (d : Fin 4096 → Fin 1024 → EReal) (s : Fin 4) (l : Fin 1024) : EReal :=
  units h (fun k (f : Fin 1024) => u k ⟨s.val * 1024 + f.val, by omega⟩) (fun f l => d ⟨s.val * 1024 + f.val, by omega⟩ l) l

/-- The four slabs are all the hidden units. -/
theorem sum_slab (h : Fin 1024 → EReal) (u : Fin 1024 → Fin 4096 → EReal) (d : Fin 4096 → Fin 1024 → EReal) (l : Fin 1024) :
    ∑ s : Fin 4, slab h u d s l = units h u d l := by
  unfold slab units
  exact Fin.sum_mul_add_congr (S := 4) (n := 1024) (fun _ _ _ => rfl) rfl

/-- The layer's last stage at entry `l` of a row `x`: normalise, add what the hidden units give, normalise again. -/
def mlp (x g : Fin 1024 → EReal) (u : Fin 1024 → Fin 4096 → EReal) (d : Fin 4096 → Fin 1024 → EReal) (gf : Fin 1024 → EReal) (l : Fin 1024) : EReal :=
  rms (fun l => x l + units (rms x g) u d l) gf l

end Cert.Layer

end
-- ==== Proof.MlpKernel.lean ====
/- The MLP call on the prompt rows: sixteen blocks of rows, four grid steps each. -/
module

public import proofs.«01_k».proof.Proof.Common
public import proofs.«01_k».proof.Proof.Gen.MlpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpIdeal.Sum

open Cert.MlpIdeal Cert.MlpIdeal.Gen Cert.Layer Idealize.ShloMosaic Idealize.ShloMosaic.TcCoe Idealize.SL.Sem
open Idealize.ShloMosaic.Pipeline (Dat)

/-- The normalised rows of a block. -/
theorem pay3_apply (x : Vec Ideal S1024x1024 .f32) (g : Vec Ideal S1x1024 .f32) (r l : Fin 1024) :
    k0_pay3 x g (ix2 r l) = rms (fun k => x (ix2 r k)) (fun k => g (ix2 0 k)) l := by
  pointwise [k0_pay3, rms]

/-- The last step of a block: the rows of the sum normalised. -/
theorem pay2_apply (x a : Vec Ideal S1024x1024 .f32) (g : Vec Ideal S1x1024 .f32) (r l : Fin 1024) :
    k0_pay2 x a g (ix2 r l) = rms (fun k => x (ix2 r k) + a (ix2 r k)) (fun k => g (ix2 0 k)) l := by
  pointwise [k0_pay2, rms]

theorem pay5_apply (h : Vec Ideal S512x1024 .bf16) (u : Vec Ideal S1024x1024 .bf16) (a : Vec Ideal S512x1024 .f32)
    (d : Vec Ideal S1024x1024 .bf16) (r : Fin 512) (l : Fin 1024) :
    k0_pay5 h u a d (ix2 r l) = a (ix2 r l) + units (fun k => h (ix2 r k)) (fun k f => u (ix2 k f)) (fun f l => d (ix2 f l)) l := by
  pointwise [k0_pay5, units]

theorem pay1_apply (h : Vec Ideal S512x1024 .bf16) (u : Vec Ideal S1024x1024 .bf16) (a : Vec Ideal S512x1024 .f32)
    (d : Vec Ideal S1024x1024 .bf16) (r : Fin 512) (l : Fin 1024) :
    k0_pay1 (k0_pay6 h u) a (k0_pay7 d) (constant S512x1024 .f32 0x00000000#32) (ix2 r l) = a (ix2 r l) + units (fun k => h (ix2 r k)) (fun k f => u (ix2 k f)) (fun f l => d (ix2 f l)) l := by
  pointwise [k0_pay1, k0_pay6, k0_pay7, units]

variable (m : (ℓ : Loc nD τ sig) → Buf (Elt Ideal) ℓ)

/-- The two stores fill the buffer. -/
theorem halves_cover (pa pb : Vec Ideal S512x1024 .f32) (y : S1024x1024.Idx) :
    ∃ p ∈ [(⟨Rect.unit (s := S1024x1024) ![512, 0] ![512, 1024] inb_S1024x1024_S512x1024_512_0, pb⟩ : View.Piece (Elt Ideal) S1024x1024 .f32),
      ⟨Rect.unit (s := S1024x1024) ![0, 0] ![512, 1024] inb_S1024x1024_S512x1024_0_0, pa⟩], y ∈ p.1.set :=
  View.cover_of_tiledL (s := S1024x1024) [_, _] S512x1024.size (by sl_kernel_rfl) y

/-- Reading the whole buffer after the two stores. -/
theorem readback (pa pb : Vec Ideal S512x1024 .f32) :
    (View.whole cc0_scratch1).readCov (Val := Elt Ideal) [(⟨Rect.unit (s := S1024x1024) ![512, 0] ![512, 1024] inb_S1024x1024_S512x1024_512_0, pb⟩ : View.Piece (Elt Ideal) S1024x1024 .f32),
      ⟨Rect.unit (s := S1024x1024) ![0, 0] ![512, 1024] inb_S1024x1024_S512x1024_0_0, pa⟩] (Rect.unit ![0, 0] ![1024, 1024] inb_S1024x1024_S1024x1024_0_0).toLoadRect
    = View.canon [(⟨Rect.unit (s := S1024x1024) ![512, 0] ![512, 1024] inb_S1024x1024_S512x1024_512_0, pb⟩ : View.Piece (Elt Ideal) S1024x1024 .f32),
      ⟨Rect.unit (s := S1024x1024) ![0, 0] ![512, 1024] inb_S1024x1024_S512x1024_0_0, pa⟩] := by
  rw [View.readCov_eq_canon_ld (Val := Elt Ideal) (s := S1024x1024) _ _ _ (halves_cover pa pb)]
  exact View.ld_unit_zero (S := S1024x1024) (off := ![0, 0]) (by decide) _ _

/-- Two stores of 512 rows each leave the function whose upper and lower rows they hold, whatever was stored before. -/
theorem halves (G : S1024x1024.Idx → EReal) (pa pb : Vec Ideal S512x1024 .f32) (L : List (View.Piece (Elt Ideal) S1024x1024 .f32))
    (ha : ∀ (r : Fin 512) (l : Fin 1024), pa (ix2 r l) = G (ix2 ⟨r.val, by omega⟩ l))
    (hb : ∀ (r : Fin 512) (l : Fin 1024), pb (ix2 r l) = G (ix2 ⟨512 + r.val, by omega⟩ l)) (y : S1024x1024.Idx) :
    View.canon ((⟨Rect.unit (s := S1024x1024) ![512, 0] ![512, 1024] inb_S1024x1024_S512x1024_512_0, pb⟩ : View.Piece (Elt Ideal) S1024x1024 .f32)
      :: ⟨Rect.unit (s := S1024x1024) ![0, 0] ![512, 1024] inb_S1024x1024_S512x1024_0_0, pa⟩ :: L) y = G y := by
  refine View.canon_append_of_piecesOf G L [_, _] ⟨?_, ?_, trivial⟩ y ?_
  · intro x
    idx_vars x
    exact (hb _ _).trans (congrArg G (by blk_ext))
  · intro x
    idx_vars x
    exact (ha _ _).trans (congrArg G (by blk_ext))
  · exact halves_cover pa pb y

abbrev H (c : Dev nD) (n : ℕ) (h : n < cfg0.N) : Vec Ideal S1024x1024 .bf16 := (outsAt0 m c n h).2.1
abbrev A (c : Dev nD) (n : ℕ) (h : n < cfg0.N) : Vec Ideal S1024x1024 .f32 := (outsAt0 m c n h).2.2

theorem prev_lt (t : Fin cfg0.N) : t.val - 1 < cfg0.N := Nat.lt_of_le_of_lt (Nat.sub_le _ _) t.isLt

theorem H_first (c : Dev nD) (t : Fin cfg0.N) (h0 : t.val % 4 = 0) :
    H m c t.val t.isLt = k0_pay3 (iblk m c 0 t) (iblk m c 1 t) := by
  have h1 : ¬t.val % 4 = 3 := by omega
  unfold H
  rw [outsAt0_A m c t h0 h1]
  frame_out

theorem H_next (c : Dev nD) (t : Fin cfg0.N) (h0 : ¬t.val % 4 = 0) :
    H m c t.val t.isLt = H m c (t.val - 1) (prev_lt t) := by
  unfold H
  by_cases h1 : t.val % 4 = 3
  · rw [outsAt0_C m c t h0 h1]; rfl
  · rw [outsAt0_B m c t h0 h1]; rfl

theorem A_first (c : Dev nD) (t : Fin cfg0.N) (h0 : t.val % 4 = 0) (r l : Fin 1024) :
    A m c t.val t.isLt (ix2 r l) = 0 + units (fun k => k0_pay3 (iblk m c 0 t) (iblk m c 1 t) (ix2 r k))
      (fun k f => iblk m c 2 t (ix2 k f)) (fun f l => iblk m c 3 t (ix2 f l)) l := by
  have h1 : ¬t.val % 4 = 3 := by omega
  unfold A
  rw [outsAt0_A m c t h0 h1]
  frame_open
  simp (disch := decide) only [↓ View.readCov_skip, ↓ View.readCov_cons_toLoadRect, ↓ View.readCov_fill]
  frame_out
  refine halves (fun i => 0 + units (fun k => k0_pay3 (iblk m c 0 t) (iblk m c 1 t) (ix2 (i 0) k))
      (fun k f => iblk m c 2 t (ix2 k f)) (fun f l => iblk m c 3 t (ix2 f l)) (i 1)) _ _ _ ?_ ?_ (ix2 r l)
  · intro r l
    rw [pay5_apply]
    pointwise [k0_pay4, units]
  · intro r l
    rw [pay1_apply]
    pointwise [k0_pay4, units]

theorem A_next (c : Dev nD) (t : Fin cfg0.N) (h0 : ¬t.val % 4 = 0) (r l : Fin 1024) :
    A m c t.val t.isLt (ix2 r l) = A m c (t.val - 1) (prev_lt t) (ix2 r l)
      + units (fun k => H m c (t.val - 1) (prev_lt t) (ix2 r k))
      (fun k f => iblk m c 2 t (ix2 k f)) (fun f l => iblk m c 3 t (ix2 f l)) l := by
  unfold A H
  by_cases h1 : t.val % 4 = 3
  · rw [outsAt0_C m c t h0 h1]
    frame_out
    simp only [read_unread_whole]
    generalize outsAt0 m c (t.val - 1) (prev_lt t) = o
    refine halves (fun i => o.2.2 i + units (fun k => o.2.1 (ix2 (i 0) k))
      (fun k f => iblk m c 2 t (ix2 k f)) (fun f l => iblk m c 3 t (ix2 f l)) (i 1)) _ _ _ ?_ ?_ (ix2 r l)
    · intro r l
      rw [pay5_apply]
      pointwise [units]
    · intro r l
      rw [pay1_apply]
      pointwise [units]
  · rw [outsAt0_B m c t h0 h1]
    frame_out
    simp only [read_unread_whole]
    generalize outsAt0 m c (t.val - 1) (prev_lt t) = o
    refine halves (fun i => o.2.2 i + units (fun k => o.2.1 (ix2 (i 0) k))
      (fun k f => iblk m c 2 t (ix2 k f)) (fun f l => iblk m c 3 t (ix2 f l)) (i 1)) _ _ _ ?_ ?_ (ix2 r l)
    · intro r l
      rw [pay5_apply]
      pointwise [units]
    · intro r l
      rw [pay1_apply]
      pointwise [units]

theorem out_last (c : Dev nD) (t : Fin cfg0.N) (h1 : t.val % 4 = 3) :
    (outsAt0 m c t.val t.isLt).1 = k0_pay2 (iblk m c 0 t) (A m c t.val t.isLt) (iblk m c 4 t) := by
  have h0 : ¬t.val % 4 = 0 := by omega
  unfold A
  rw [outsAt0_C m c t h0 h1]
  frame_out
  refine congrArg (fun z => k0_pay2 (F := Ideal) _ z _) ?_
  exact readback _ _

theorem idx : ∀ t : Fin grid0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] := by decide +kernel

theorem blk0 (c : Dev nD) (t : Fin cfg0.N) (r k : Fin 1024) :
    iblk m c 0 t (ix2 r k) = m ((c.tc : Thread nD τ).loc main_arg0) (ix2 ⟨t.val / 4 * 1024 + r.val, by have := t.isLt; have : cfg0.N = 64 := N_0; omega⟩ k) := by
  blk_ext [iblk, V, idx t]
theorem blk1 (c : Dev nD) (t : Fin cfg0.N) (k : Fin 1024) :
    iblk m c 1 t (ix2 0 k) = m ((c.tc : Thread nD τ).loc main_arg1) (ix1 k) := by
  blk_simp [iblk, idx t]
  entry_read
  pointwise
  blk_ext [idx t]
theorem blk4 (c : Dev nD) (t : Fin cfg0.N) (k : Fin 1024) :
    iblk m c 4 t (ix2 0 k) = m ((c.tc : Thread nD τ).loc main_arg4) (ix1 k) := by
  blk_simp [iblk, idx t]
  entry_read
  pointwise
  blk_ext [idx t]
theorem blk2 (c : Dev nD) (t : Fin cfg0.N) (k f : Fin 1024) :
    iblk m c 2 t (ix2 k f) = m ((c.tc : Thread nD τ).loc main_arg2) (ix2 k ⟨t.val % 4 * 1024 + f.val, by omega⟩) := by
  blk_ext [iblk, V, idx t]
theorem blk3 (c : Dev nD) (t : Fin cfg0.N) (f l : Fin 1024) :
    iblk m c 3 t (ix2 f l) = m ((c.tc : Thread nD τ).loc main_arg3) (ix2 ⟨t.val % 4 * 1024 + f.val, by omega⟩ l) := by
  blk_ext [iblk, V, idx t]

/-- The arrays of the launch, a row or a matrix at a time. -/
abbrev row (c : Dev nD) (i : Fin 16384) : Fin 1024 → EReal := fun k => m ((c.tc : Thread nD τ).loc main_arg0) (ix2 i k)
abbrev gain (c : Dev nD) : Fin 1024 → EReal := fun k => m ((c.tc : Thread nD τ).loc main_arg1) (ix1 k)
abbrev up (c : Dev nD) : Fin 1024 → Fin 4096 → EReal := fun k f => m ((c.tc : Thread nD τ).loc main_arg2) (ix2 k f)
abbrev down (c : Dev nD) : Fin 4096 → Fin 1024 → EReal := fun f l => m ((c.tc : Thread nD τ).loc main_arg3) (ix2 f l)
abbrev gainF (c : Dev nD) : Fin 1024 → EReal := fun k => m ((c.tc : Thread nD τ).loc main_arg4) (ix1 k)

theorem lt64 {n : ℕ} (h : n < cfg0.N) : n < 64 := lt_of_lt_of_eq h N_0

/-- The normalised row `r` of the block of rows that step `t` works on. -/
def hrow (c : Dev nD) (t : ℕ) (ht : t < 64) (r : Fin 1024) : Fin 1024 → EReal :=
  rms (row m c ⟨t / 4 * 1024 + r.val, by omega⟩) (gain m c)

theorem H_eq (c : Dev nD) (t : Fin cfg0.N) (r k : Fin 1024) :
    H m c t.val t.isLt (ix2 r k) = hrow m c t.val (lt64 t.isLt) r k := by
  obtain ⟨n, hn⟩ := t
  induction n with
  | zero =>
    rw [H_first m c ⟨0, hn⟩ rfl, pay3_apply]
    simp only [blk0, blk1]
    rfl
  | succ n ih =>
    by_cases h0 : (n + 1) % 4 = 0
    · rw [H_first m c ⟨n + 1, hn⟩ h0, pay3_apply]
      simp only [blk0, blk1]
      rfl
    · rw [H_next m c ⟨n + 1, hn⟩ h0]
      refine (ih (by omega)).trans ?_
      unfold hrow
      have e : n / 4 = (n + 1) / 4 := by omega
      simp only [e]

/-- What step `t` adds. -/
def step (c : Dev nD) (t : ℕ) (r l : Fin 1024) : EReal :=
  if h : t < 64 then slab (hrow m c t h r) (up m c) (down m c) ⟨t % 4, by omega⟩ l else 0

theorem A_eq (c : Dev nD) (t : Fin cfg0.N) (h1 : t.val % 4 = 3) (r l : Fin 1024) :
    A m c t.val t.isLt (ix2 r l) = 0 + ∑ k ∈ Finset.range (3 + 1), step m c (4 * (t.val / 4) + k) r l := by
  refine Pipeline.eq_sum_of_reset_step_apply_of_mod (fun n h (i : Fin 1024 × Fin 1024) => A m c n h (ix2 i.1 i.2)) 4 (fun _ => 0)
    (fun n i => step m c n i.1 i.2) ?_ ?_ t h1 (r, l)
  · intro t h0 i
    show A m c t.val t.isLt (ix2 i.1 i.2) = _
    unfold step
    rw [A_first m c t h0, dif_pos (lt64 t.isLt)]
    simp only [← H_first m c t h0, H_eq, blk2, blk3]
    rfl
  · intro t h0 i
    show A m c t.val t.isLt (ix2 i.1 i.2) = _
    unfold step
    rw [A_next m c t h0, dif_pos (lt64 t.isLt)]
    simp only [← H_next m c t h0, H_eq, blk2, blk3]
    rfl

theorem A_last (c : Dev nD) (t : Fin cfg0.N) (h1 : t.val % 4 = 3) (r l : Fin 1024) (i : Fin 16384) (hi : i.val = t.val / 4 * 1024 + r.val) :
    A m c t.val t.isLt (ix2 r l) = units (rms (row m c i) (gain m c)) (up m c) (down m c) l := by
  have hN : t.val < 64 := lt64 t.isLt
  rw [A_eq m c t h1, zero_add, Finset.sum_range, ← sum_slab]
  refine Finset.sum_congr rfl fun s _ => ?_
  have hs := s.isLt
  unfold step
  refine (dif_pos (show 4 * (t.val / 4) + s.val < 64 by omega)).trans ?_
  have er : (⟨(4 * (t.val / 4) + s.val) / 4 * 1024 + r.val, by omega⟩ : Fin 16384) = i := Fin.ext (by show (4 * (t.val / 4) + s.val) / 4 * 1024 + r.val = i.val; omega)
  have es : (⟨(4 * (t.val / 4) + s.val) % 4, by omega⟩ : Fin 4) = s := Fin.ext (by show (4 * (t.val / 4) + s.val) % 4 = s.val; omega)
  unfold hrow
  rw [er, es]

theorem final (c : Dev nD) : (dats m 0 c).arrAt 5 cfg0.N = fun i =>
    mlp (row m c (i 0)) (gain m c) (up m c) (down m c) (gainF m c) (i 1) := by
  refine (dats m 0 c).arrAt_eq_of_covers 5 _ (by decide +kernel) fun t hf y => ?_
  have h1 : t.val % 4 = 3 := (flush0_5 t).mp hf
  have hN : t.val < 64 := lt64 t.isLt
  idx_vars y
  show (cfg0.win 5).cut (grid0.coords t) ((dats m 0 c).after 5 t) _ = _
  rw [after0_5, out_last m c t h1]
  have e : ((cfg0.win 5).blk t).view.emb (ix2 y0 y1) = ix2 ⟨t.val / 4 * 1024 + y0.val, by omega⟩ y1 := by
    blk_ext [idx t]
  show k0_pay2 (iblk m c 0 t) (A m c t.val t.isLt) (iblk m c 4 t) (ix2 y0 y1) = mlp (row m c (((cfg0.win 5).blk t).view.emb (ix2 y0 y1) 0)) _ _ _ _ (((cfg0.win 5).blk t).view.emb (ix2 y0 y1) 1)
  rw [e, pay2_apply]
  simp only [blk0, blk4, A_last m c t h1 y0 _ ⟨t.val / 4 * 1024 + y0.val, by omega⟩ rfl]
  rfl

end Cert.MlpIdeal.Sum

end
-- ==== Proof.MlpValue.lean ====
/- The MLP call and its plain reference leave the same array. -/
module

public import proofs.«01_k».proof.Defs
public import proofs.«01_k».proof.Proof.MlpKernel
public import proofs.«01_k».proof.Proof.Gen.MlpRefIdeal.Run
public import proofs.«01_k».proof.Proof.Gen.MlpRefIdeal.Read
public import Idealize.ShloMosaic.Lib.Pointwise

@[expose] public section

set_option maxRecDepth 16384

noncomputable section

open Idealize.ShloMosaic Idealize.SL.Sem
open scoped BigOperators

namespace Cert.MlpRefIdeal.Sum

open Cert.MlpRefIdeal Cert.MlpRefIdeal.Read

/-- The reference's result at a row and a column is the same sum over the hidden units. -/
theorem ref_apply (x : Vec Ideal S16384x1024 .f32) (g : Vec Ideal S1024 .f32) (u : Vec Ideal S1024x4096 .f32) (d : Vec Ideal S4096x1024 .f32)
    (gf : Vec Ideal S1024 .f32) (i : Fin 16384) (l : Fin 1024) :
    val_main_v30 (F := Ideal) x g u d gf (ix2 i l) = Cert.Layer.mlp (fun k => x (ix2 i k)) (fun k => g (ix1 k)) (fun k f => u (ix2 k f)) (fun f l => d (ix2 f l)) (fun k => gf (ix1 k)) l := by
  pointwise [Cert.Layer.mlp, Cert.Layer.units, Cert.Layer.rms, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_cst, val_main_call0_v0, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v28, val_main_v29, val_main_v30]

end Cert.MlpRefIdeal.Sum

namespace Cert.Proof

/-- The kernel call and the reference end with the same array, each having left its arguments as they were. -/
theorem mlp_algebraic : Cert.algebraic_MlpIdeal_MlpRefIdeal := fun m ρ m' ρ' _ hag =>
  ⟨fun c => Cert.MlpIdeal.Value.G5 m c, Cert.MlpIdeal.Value.run m ρ,
    (θ_run _ _ _).mono (fun _ h c => ⟨(h c).1.trans (by
        obtain ⟨h0, h1, h2, h3, h4⟩ := hag c
        rw [Cert.MlpRefIdeal.Read.val_main_v30_eq, h0, h1, h2, h3, h4]
        refine Eq.trans ?_ ((Cert.MlpIdeal.Sum.final m c).symm.trans (Cert.MlpIdeal.Value.final5 m c))
        funext i
        idx_vars i
        exact Cert.MlpRefIdeal.Sum.ref_apply _ _ _ _ _ _ _), (h c).2⟩) (Cert.MlpRefIdeal.Value.run m' ρ')⟩

end Cert.Proof

end
-- ==== Proof.Columns.lean ====
/- The columns of the joined weights, and a row of the projection onto them. -/
module

public import proofs.«01_k».proof.Proof.Common
public import Idealize.ShloMosaic.Lib.Pointwise

@[expose] public section

set_option maxRecDepth 16384

noncomputable section

open Idealize.ShloMosaic
open scoped BigOperators

namespace Cert.Layer

/-- The joined weights: the query columns with their heads and groups exchanged, the key and value columns, the gate
    columns padded to a whole tile, and the rest. -/
def wall (w : (⟨2, ![1024, 4888]⟩ : Shape).Idx → EReal) (k : Fin 1024) (j : Fin 4992) : EReal :=
  if j.val < 512 then w (ix2 k ⟨j.val / 64 % 2 * 256 + j.val / 128 % 4 * 64 + j.val % 64, by omega⟩)
  else if h : j.val < 1304 then w (ix2 k ⟨j.val, by omega⟩)
  else if j.val < 1408 then 0
  else w (ix2 k ⟨j.val - 104, by omega⟩)

theorem col_lt {n l o N : ℕ} (h : l < n) (hn : o + n ≤ N) : o + l < N := by omega

variable (w : (⟨2, ![1024, 4888]⟩ : Shape).Idx → EReal)

theorem wall_mid (k : Fin 1024) (j : Fin 4992) (j' : Fin 4888) (h : j'.val = j.val) (h0 : 512 ≤ j.val) (h1 : j.val < 1304) : wall w k j = w (ix2 k j') := by
  rw [wall, if_neg (by omega), dif_pos h1]
  exact congrArg (fun l => w (ix2 k l)) (Fin.ext h.symm)

theorem wall_high (k : Fin 1024) (j : Fin 4992) (j' : Fin 4888) (h : j'.val + 104 = j.val) (h1 : 1408 ≤ j.val) : wall w k j = w (ix2 k j') := by
  rw [wall, if_neg (by omega), dif_neg (by omega), if_neg (by omega)]
  exact congrArg (fun l => w (ix2 k l)) (Fin.ext (by dsimp only; omega))

theorem wall_low (k : Fin 1024) (j : Fin 4992) (j' : Fin 4888) (h : j'.val = j.val / 64 % 2 * 256 + j.val / 128 % 4 * 64 + j.val % 64) (h1 : j.val < 512) :
    wall w k j = w (ix2 k j') := by
  rw [wall, if_pos h1]
  exact congrArg (fun l => w (ix2 k l)) (Fin.ext h.symm)

/-- A row against a padding column. -/
theorem proj_pad (x g : Fin 1024 → EReal) (j : Fin 4992) (h0 : 1304 ≤ j.val) (h1 : j.val < 1408) : proj x g (fun k => wall w k j) = 0 := by
  have hw : ∀ k, wall w k j = 0 := fun k => by rw [wall, if_neg (by omega), dif_neg (by omega), if_pos h1]
  rw [funext hw, proj]
  simp only [mul_zero, Finset.sum_const_zero]

end Cert.Layer

end
-- ==== Proof.Conv.lean ====
/- The short convolution, the gated merge, and the exchange of heads and groups, in plain mathematics. -/
module

public import Idealize.ShloMosaic.PureOps.Ideal.Laws

@[expose] public section

noncomputable section

open Idealize.ShloMosaic
open scoped BigOperators

namespace Cert.Layer

/-- Three taps and a bias. -/
def tap (b a0 a1 a2 p0 p1 p2 : EReal) : EReal := b + a0 * p0 + a1 * p1 + a2 * p2

/-- The two gated paths added, projected, and added to the residual. -/
def merged (x : EReal) (a v : Fin 512 → EReal) (g : Fin 2048 → EReal) (wn wc : Fin 512 → Fin 1024 → EReal) (wo : Fin 1024 → EReal) : EReal :=
  x + ∑ d : Fin 1024, (Ideal.logistic (g ⟨d.val, by omega⟩) * ∑ k, a k * wn k d
    + Ideal.logistic (g ⟨1024 + d.val, by omega⟩) * ∑ k, v k * wc k d) * wo d

/-- Columns numbered by group, head, lane, as they are numbered by head, group, lane; and back. -/
def swap : Fin 512 ≃ Fin 512 where
  toFun k := ⟨k.val / 64 % 2 * 256 + k.val / 128 * 64 + k.val % 64, by omega⟩
  invFun k := ⟨k.val / 64 % 4 * 128 + k.val / 256 * 64 + k.val % 64, by omega⟩
  left_inv := by unfold Function.LeftInverse; decide +kernel
  right_inv := by unfold Function.RightInverse Function.LeftInverse; decide +kernel

/-- The columns of one factor exchanged, or the rows of the other. -/
theorem sum_swap (a w : Fin 512 → EReal) : ∑ k, a (swap.symm k) * w k = ∑ k, a k * w (swap k) := by
  refine Fintype.sum_equiv swap.symm _ _ fun k => ?_
  rw [Equiv.apply_symm_apply]

end Cert.Layer

end
-- ==== Proof.PromptKernel.lean ====
/- What the two kernels of the prompt rows store at one grid point, and the whole arrays their blocks fill. -/
module

public import proofs.«01_k».proof.Proof.Columns
public import proofs.«01_k».proof.Proof.Conv
public import proofs.«01_k».proof.Proof.Gen.PromptIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.PromptIdeal.Sum

open Cert.PromptIdeal Cert.PromptIdeal.Gen Cert.Layer Idealize.ShloMosaic Idealize.ShloMosaic.TcCoe Idealize.SL.Sem
open Idealize.ShloMosaic.Pipeline (Dat)
open scoped BigOperators

section
variable (x : Vec Ideal S512x1024 .f32) (g : Vec Ideal S1x1024 .f32) (w : Vec Ideal S1024x4992 .bf16)

/-- Row `r` of the block of rows against column `c` of the joined weights. -/
def z (r : Fin 512) (c : Fin 4992) : EReal := proj (fun k => x (ix2 r k)) (fun k => g (ix2 0 k)) (fun k => w (ix2 k c))

/-- The outputs that keep the rows as rows. -/
theorem rows_out (r : Fin 512) :
    (∀ l : Fin 512, out0_3 x g w (ix2 r l) = z x g w r ⟨0 + l.val, by omega⟩)
    ∧ (∀ l : Fin 128, out0_4 x g w (ix2 r l) = z x g w r ⟨512 + l.val, by omega⟩)
    ∧ (∀ l : Fin 128, out0_5 x g w (ix2 r l) = z x g w r ⟨640 + l.val, by omega⟩)
    ∧ (∀ l : Fin 768, out0_12 x g w (ix2 r l) = z x g w r ⟨512 + l.val, by omega⟩)
    ∧ (∀ l : Fin 128, out0_13 x g w (ix2 r l) = z x g w r ⟨1280 + l.val, by omega⟩)
    ∧ (∀ l : Fin 1536, out0_14 x g w (ix2 r l) = z x g w r ⟨1408 + l.val, by omega⟩)
    ∧ (∀ l : Fin 2048, out0_15 x g w (ix2 r l) = z x g w r ⟨2944 + l.val, by omega⟩) := by
  unfold out0_3 out0_4 out0_5 out0_12 out0_13 out0_14 out0_15
  refine ⟨?_, ?_, ?_, ?_, ?_, ?_, ?_⟩ <;> intro l <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, z, proj, rms] <;> try simp only [← Nat.add_assoc, Nat.reduceAdd]

/-- The outputs split into heads, the rows last. -/
theorem heads_out (h : Fin 2) (d : Fin 64) (r : Fin 512) :
    out0_6 x g w (ix4 0 h d r) = z x g w r ⟨512 + (h.val * 64 + d.val), by omega⟩
    ∧ out0_7 x g w (ix4 0 h d r) = z x g w r ⟨640 + (h.val * 64 + d.val), by omega⟩
    ∧ out0_8 x g w (ix4 0 h d r) = z x g w r ⟨768 + (h.val * 64 + d.val), by omega⟩
    ∧ out0_9 x g w (ix4 0 h d r) = z x g w r ⟨896 + (h.val * 64 + d.val), by omega⟩
    ∧ out0_10 x g w (ix4 0 h d r) = z x g w r ⟨1024 + (h.val * 64 + d.val), by omega⟩
    ∧ out0_11 x g w (ix4 0 h d r) = z x g w r ⟨1152 + (h.val * 64 + d.val), by omega⟩ := by
  unfold out0_6 out0_7 out0_8 out0_9 out0_10 out0_11
  refine ⟨?_, ?_, ?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, z, proj, rms] <;> try simp only [← Nat.add_assoc, Nat.reduceAdd]

end

/-- Whether a grid point starts a sequence, as the kernel decides it. -/
theorem first_tile : ∀ n : Fin 32, (
  let arg0 : BitVec 32 := BitVec.ofNat 32 n.val
  let v0 : BitVec 1 := Scalar.cmpi .eq 16#32 0#32
  let v1 : BitVec 32 := Scalar.select v0 1#32 16#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32) = if n.val % 16 = 0 then 1#1 else 0#1 := by decide +kernel

theorem pay5_apply (x2 : Vec Ideal S512x1536 .f32) (r k : Fin 512) :
    k1_pay5 x2 (ix2 r k) = x2 (ix2 r ⟨512 + k.val, by omega⟩) * x2 (ix2 r ⟨1024 + k.val, by omega⟩) := by
  pointwise [k1_pay5, k1_pay3]

theorem pay6_apply (i : grid1.Coords) (x3 : Vec Ideal S8x1536 .f32) (r : Fin 8) (k : Fin 512) :
    k1_pay6 i x3 (ix2 r k) = if (i 0).val % 16 = 0 then 0 else x3 (ix2 r ⟨512 + k.val, by omega⟩) * x3 (ix2 r ⟨1024 + k.val, by omega⟩) := by
  have e := first_tile (i 0)
  dsimp only at e
  unfold k1_pay6
  dsimp only
  rw [e]
  by_cases h : (i 0).val % 16 = 0
  · simp only [h]
    pointwise
  · simp only [h]
    pointwise

theorem row_eq : ∀ r : Fin 512, IntOp.cmpi CmpIPredicate.eq (BitVec.ofNat 32 r.val) 0#32 = (if r.val = 0 then 1#1 else 0#1)
    ∧ IntOp.cmpi CmpIPredicate.eq (BitVec.ofNat 32 r.val) 1#32 = (if r.val = 1 then 1#1 else 0#1) := by decide +kernel

section
variable (i : grid1.Coords) (x0 : Vec Ideal S512x1024 .f32) (x1 : Vec Ideal S512x512 .bf16) (x2 : Vec Ideal S512x1536 .f32)
  (x3 : Vec Ideal S8x1536 .f32) (x4 : Vec Ideal S512x2048 .f32) (x5 : Vec Ideal S3x512 .f32) (x6 : Vec Ideal S1x512 .f32)
  (x7 x8 : Vec Ideal S512x1024 .bf16) (x9 : Vec Ideal S1024x1024 .bf16)

/-- The product one row back: the last row carried over, at the first row. -/
theorem pay7_apply (r k : Fin 512) :
    k1_pay7 i x2 x3 (ix2 r k) = if r.val = 0 then k1_pay6 i x3 (ix2 7 k) else k1_pay5 x2 (ix2 ⟨(r.val + 512 - 1) % 512, Nat.mod_lt _ (by decide)⟩ k) := by
  pointwise [k1_pay7]
  rw [(row_eq r).1]
  by_cases h : r.val = 0 <;> simp [h, Scalar.select]

theorem pay10_apply (r k : Fin 512) :
    k1_pay10 i x2 x3 (ix2 r k) = if r.val = 1 then k1_pay6 i x3 (ix2 7 k) else k1_pay5 x2 (ix2 ⟨(r.val + 512 - 2) % 512, Nat.mod_lt _ (by decide)⟩ k) := by
  pointwise [k1_pay10]
  rw [(row_eq r).2]
  by_cases h : r.val = 1 <;> simp [h, Scalar.select]

theorem pay9_apply (k : Fin 512) : k1_pay9 i x3 (ix2 0 k) = k1_pay6 i x3 (ix2 6 k) := by
  pointwise [k1_pay9]

/-- The product two rows back. -/
theorem two_back (r k : Fin 512) :
    Scalar.select (k1_pay8 (ix2 r k)) (k1_pay9 i x3 (ix2 0 k)) (k1_pay10 i x2 x3 (ix2 r k))
      = if r.val = 0 then k1_pay6 i x3 (ix2 6 k) else if r.val = 1 then k1_pay6 i x3 (ix2 7 k)
        else k1_pay5 x2 (ix2 ⟨(r.val + 512 - 2) % 512, Nat.mod_lt _ (by decide)⟩ k) := by
  rw [pay9_apply, pay10_apply]
  have e : k1_pay8 (ix2 r k) = if r.val = 0 then 1#1 else 0#1 := by
    pointwise [k1_pay8]
    exact (row_eq r).1
  rw [e]
  by_cases h : r.val = 0 <;> simp [h, Scalar.select]

theorem sum_apply (r : Fin 512) (l : Fin 1024) :
    out1_10 i x0 x1 x2 x3 x4 x5 x6 x7 x8 x9 (ix2 r l)
      = merged (x0 (ix2 r l)) (fun k => x1 (ix2 r k))
          (fun k => x2 (ix2 r ⟨k.val, by omega⟩) * tap (x6 (ix2 0 k)) (x5 (ix2 0 k)) (x5 (ix2 1 k)) (x5 (ix2 2 k))
            (if r.val = 0 then k1_pay6 i x3 (ix2 6 k) else if r.val = 1 then k1_pay6 i x3 (ix2 7 k)
              else k1_pay5 x2 (ix2 ⟨(r.val + 512 - 2) % 512, Nat.mod_lt _ (by decide)⟩ k))
            (if r.val = 0 then k1_pay6 i x3 (ix2 7 k) else k1_pay5 x2 (ix2 ⟨(r.val + 512 - 1) % 512, Nat.mod_lt _ (by decide)⟩ k))
            (k1_pay5 x2 (ix2 r k)))
          (fun k => x4 (ix2 r k)) (fun k d => x7 (ix2 k d)) (fun k d => x8 (ix2 k d)) (fun d => x9 (ix2 d l)) := by
  unfold_out out1_10
  frame_out
  pointwise [k1_pay1, k1_pay3, k1_pay4, k1_pay11, k1_pay12, merged, tap]
  simp only [two_back, pay7_apply]

theorem last_apply (j : Fin 8) (k : Fin 512) :
    out1_11 i x0 x1 x2 x3 x4 x5 x6 x7 x8 x9 (ix3 0 j k) = k1_pay5 x2 (ix2 ⟨504 + j.val, by omega⟩ k) := by
  unfold_out out1_11
  frame_out
  pointwise [k1_pay2]

end

variable (m : (ℓ : Loc nD τ sig) → Buf (Elt Ideal) ℓ) (ρ : Dev nD → PrngReg) (c : Dev nD)

abbrev X : S2x8192x1024.Idx → EReal := m ((c.tc : Thread nD τ).loc main_arg0)
abbrev G : S1024.Idx → EReal := m ((c.tc : Thread nD τ).loc main_arg2)
abbrev W : S1024x4888.Idx → EReal := m ((c.tc : Thread nD τ).loc main_arg3)

theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val / 16, 0, 0, t.val % 16] ∧ win0_7.index t = ![t.val / 16, 0, 0, t.val % 16]
    ∧ win0_8.index t = ![t.val / 16, 0, 0, t.val % 16] ∧ win0_9.index t = ![t.val / 16, 0, 0, t.val % 16]
    ∧ win0_10.index t = ![t.val / 16, 0, 0, t.val % 16] ∧ win0_11.index t = ![t.val / 16, 0, 0, t.val % 16]
    ∧ win0_12.index t = ![t.val, 0] ∧ win0_13.index t = ![t.val, 0] ∧ win0_14.index t = ![t.val, 0] ∧ win0_15.index t = ![t.val, 0] := by decide +kernel

theorem lt32 {n : ℕ} (h : n < cfg0.N) : n < 32 := lt_of_lt_of_eq h N_0

theorem V_x (i : Fin 16384) (k : Fin 1024) : V3 m ρ c main_v6 (ix2 i k) = X m c (ix3 ⟨i.val / 8192, by omega⟩ ⟨i.val % 8192, by omega⟩ k) := by
  refine (congrFun ((W3_of m ρ c main_v6 (by decide)).trans (W2_of m ρ c main_v6 (by decide))) _).trans ?_
  show StableHlo.after hostOps0 (W0 m ρ c) _ _ = _
  simp only [hostOps0]
  after_reads_at

theorem V_g (k : Fin 1024) : V3 m ρ c main_v7 (ix2 0 k) = G m c (ix1 k) := by
  refine (congrFun ((W3_of m ρ c main_v7 (by decide)).trans (W2_of m ρ c main_v7 (by decide))) _).trans ?_
  show StableHlo.after hostOps0 (W0 m ρ c) _ _ = _
  simp only [hostOps0]
  after_reads_at

theorem V_w (k : Fin 1024) (j : Fin 4992) : V3 m ρ c main_v17 (ix2 k j) = wall (W m c) k j := by
  show StableHlo.after hostOps0_2 (StableHlo.after hostOps0_1 (StableHlo.after hostOps0 (W0 m ρ c))) _ _ = _
  simp only [hostOps0, hostOps0_1, hostOps0_2]
  after_reads_at
  after_reads_at
  have hz : FloatOps.sitofp (F := Ideal) FTy.f32 0#32 = (0 : EReal) := by simp [FloatOps.sitofp]
  have hj := j.isLt
  unfold wall
  repeat' split
  all_goals first
    | omega
    | exact hz
    | exact congrArg (fun l => W m c (ix2 k l)) (Fin.ext (by first | rfl | (dsimp only; omega)))

/-- Row `i` of the normalised argument, the batch and the position joined, against column `j` of the joined weights. -/
def zrow (x : S2x8192x1024.Idx → EReal) (g : S1024.Idx → EReal) (w : S1024x4888.Idx → EReal) (i : Fin 16384) (j : Fin 4992) : EReal :=
  proj (fun k => x (ix3 ⟨i.val / 8192, by omega⟩ ⟨i.val % 8192, by omega⟩ k)) (fun k => g (ix1 k)) (fun k => wall w k j)

/-- The columns from `o` on of every row. -/
def slab (x : S2x8192x1024.Idx → EReal) (g : S1024.Idx → EReal) (w : S1024x4888.Idx → EReal) (o n : ℕ) (h : o + n ≤ 4992)
    (i : (⟨2, ![16384, n]⟩ : Shape).Idx) : EReal := zrow x g w (i 0) ⟨o + (i 1).val, col_lt (i 1).isLt h⟩

/-- The columns from `o` on, split into two heads, the positions last. -/
def headarr (x : S2x8192x1024.Idx → EReal) (g : S1024.Idx → EReal) (w : S1024x4888.Idx → EReal) (o : ℕ) (ho : o + 128 ≤ 4992) (i : S2x2x64x8192.Idx) : EReal :=
  zrow x g w ⟨(i 0).val * 8192 + (i 3).val, by have h0 : (i 0).val < 2 := (i 0).isLt; have h3 : (i 3).val < 8192 := (i 3).isLt; omega⟩
    ⟨o + ((i 1).val * 64 + (i 2).val), by have h1 : (i 1).val < 2 := (i 1).isLt; have h2 : (i 2).val < 64 := (i 2).isLt; omega⟩

theorem z_eq (t : Fin cfg0.N) (r : Fin 512) (j : Fin 4992) (i : Fin 16384) (hi : i.val = t.val * 512 + r.val) :
    z (iblk0 (V3 m ρ) c 0 t) (iblk0 (V3 m ρ) c 1 t) (iblk0 (V3 m ρ) c 2 t) r j = zrow (X m c) (G m c) (W m c) i j := by
  have b0 : ∀ k, iblk0 (V3 m ρ) c 0 t (ix2 r k) = V3 m ρ c main_v6 (ix2 i k) := fun k => by
    blk_ext [iblk0, idx t]
  have b1 : ∀ k, iblk0 (V3 m ρ) c 1 t (ix2 0 k) = V3 m ρ c main_v7 (ix2 0 k) := fun k => by
    blk_ext [iblk0, idx t]
  have b2 : ∀ k, iblk0 (V3 m ρ) c 2 t (ix2 k j) = V3 m ρ c main_v17 (ix2 k j) := fun k => by
    blk_ext [iblk0, idx t]
  unfold z zrow
  rw [funext fun k => (b0 k).trans (V_x m ρ c i k), funext fun k => (b1 k).trans (V_g m ρ c k), funext fun k => (b2 k).trans (V_w m ρ c k j)]

theorem at_row (t : Fin cfg0.N) (r : Fin 512) (j : Fin 4992) (i : Fin 16384) (j' : Fin 4992) (hi : i.val = t.val * 512 + r.val) (hj : j.val = j'.val) :
    z (iblk0 (V3 m ρ) c 0 t) (iblk0 (V3 m ρ) c 1 t) (iblk0 (V3 m ρ) c 2 t) r j = zrow (X m c) (G m c) (W m c) i j' :=
  (z_eq m ρ c t r j i hi).trans (congrArg (zrow (X m c) (G m c) (W m c) i) (Fin.ext hj))

set_option maxHeartbeats 2000000 in
/-- The arrays that keep the rows as rows. -/
theorem final0_rows : (dat0 (V3 m ρ) c).arrAt 3 cfg0.N = slab (X m c) (G m c) (W m c) 0 512 (by decide)
    ∧ (dat0 (V3 m ρ) c).arrAt 4 cfg0.N = slab (X m c) (G m c) (W m c) 512 128 (by decide)
    ∧ (dat0 (V3 m ρ) c).arrAt 5 cfg0.N = slab (X m c) (G m c) (W m c) 640 128 (by decide)
    ∧ (dat0 (V3 m ρ) c).arrAt 12 cfg0.N = slab (X m c) (G m c) (W m c) 512 768 (by decide)
    ∧ (dat0 (V3 m ρ) c).arrAt 13 cfg0.N = slab (X m c) (G m c) (W m c) 1280 128 (by decide)
    ∧ (dat0 (V3 m ρ) c).arrAt 14 cfg0.N = slab (X m c) (G m c) (W m c) 1408 1536 (by decide)
    ∧ (dat0 (V3 m ρ) c).arrAt 15 cfg0.N = slab (X m c) (G m c) (W m c) 2944 2048 (by decide) := by
  refine ⟨?_, ?_, ?_, ?_, ?_, ?_, ?_⟩
  all_goals
    refine (dat0 (V3 m ρ) c).arrAt_eq_of_covers _ _ (by decide +kernel) fun t hf y => ?_
    have hN := lt32 t.isLt
    idx_vars y
    show (cfg0.win _).cut (grid0.coords t) ((dat0 (V3 m ρ) c).after _ t) _ = _
    simp only [after0_3, after0_4, after0_5, after0_12, after0_13, after0_14, after0_15]
  · exact ((rows_out _ _ _ _).1 _).trans (at_row m ρ c t y0 _ _ _ (by blk_ext [idx t]) (by blk_ext [idx t]))
  · exact ((rows_out _ _ _ _).2.1 _).trans (at_row m ρ c t y0 _ _ _ (by blk_ext [idx t]) (by blk_ext [idx t]))
  · exact ((rows_out _ _ _ _).2.2.1 _).trans (at_row m ρ c t y0 _ _ _ (by blk_ext [idx t]) (by blk_ext [idx t]))
  · exact ((rows_out _ _ _ _).2.2.2.1 _).trans (at_row m ρ c t y0 _ _ _ (by blk_ext [idx t]) (by blk_ext [idx t]))
  · exact ((rows_out _ _ _ _).2.2.2.2.1 _).trans (at_row m ρ c t y0 _ _ _ (by blk_ext [idx t]) (by blk_ext [idx t]))
  · exact ((rows_out _ _ _ _).2.2.2.2.2.1 _).trans (at_row m ρ c t y0 _ _ _ (by blk_ext [idx t]) (by blk_ext [idx t]))
  · exact ((rows_out _ _ _ _).2.2.2.2.2.2 _).trans (at_row m ρ c t y0 _ _ _ (by blk_ext [idx t]) (by blk_ext [idx t]))

/-- The position of row `r` of block `t` among all rows. -/
theorem head_pos {a : ℕ} (t r : ℕ) (h : a = (t / 16 + 0) * 8192 + (t % 16 * 512 + r)) :
    a = t * 512 + r := by omega

set_option maxHeartbeats 2000000 in
/-- The arrays split into heads. -/
theorem final0_heads : (dat0 (V3 m ρ) c).arrAt 6 cfg0.N = headarr (X m c) (G m c) (W m c) 512 (by decide)
    ∧ (dat0 (V3 m ρ) c).arrAt 7 cfg0.N = headarr (X m c) (G m c) (W m c) 640 (by decide)
    ∧ (dat0 (V3 m ρ) c).arrAt 8 cfg0.N = headarr (X m c) (G m c) (W m c) 768 (by decide)
    ∧ (dat0 (V3 m ρ) c).arrAt 9 cfg0.N = headarr (X m c) (G m c) (W m c) 896 (by decide)
    ∧ (dat0 (V3 m ρ) c).arrAt 10 cfg0.N = headarr (X m c) (G m c) (W m c) 1024 (by decide)
    ∧ (dat0 (V3 m ρ) c).arrAt 11 cfg0.N = headarr (X m c) (G m c) (W m c) 1152 (by decide) := by
  refine ⟨?_, ?_, ?_, ?_, ?_, ?_⟩
  all_goals
    refine (dat0 (V3 m ρ) c).arrAt_eq_of_covers _ _ (by decide +kernel) fun t hf y => ?_
    have hN := lt32 t.isLt
    idx_vars y
    obtain rfl : y0 = 0 := Subsingleton.elim _ _
    show (cfg0.win _).cut (grid0.coords t) ((dat0 (V3 m ρ) c).after _ t) _ = _
    simp only [after0_6, after0_7, after0_8, after0_9, after0_10, after0_11]
    unfold headarr
  · exact ((heads_out _ _ _ _ _ _).1).trans (at_row m ρ c t y3 _ _ _ (head_pos _ _ (by blk_simp [idx t]; rfl)) (by blk_ext [idx t]))
  · exact ((heads_out _ _ _ _ _ _).2.1).trans (at_row m ρ c t y3 _ _ _ (head_pos _ _ (by blk_simp [idx t]; rfl)) (by blk_ext [idx t]))
  · exact ((heads_out _ _ _ _ _ _).2.2.1).trans (at_row m ρ c t y3 _ _ _ (head_pos _ _ (by blk_simp [idx t]; rfl)) (by blk_ext [idx t]))
  · exact ((heads_out _ _ _ _ _ _).2.2.2.1).trans (at_row m ρ c t y3 _ _ _ (head_pos _ _ (by blk_simp [idx t]; rfl)) (by blk_ext [idx t]))
  · exact ((heads_out _ _ _ _ _ _).2.2.2.2.1).trans (at_row m ρ c t y3 _ _ _ (head_pos _ _ (by blk_simp [idx t]; rfl)) (by blk_ext [idx t]))
  · exact ((heads_out _ _ _ _ _ _).2.2.2.2.2).trans (at_row m ρ c t y3 _ _ _ (head_pos _ _ (by blk_simp [idx t]; rfl)) (by blk_ext [idx t]))

theorem idx1 : ∀ t : Fin grid1.N, win1_0.index t = ![t.val, 0] ∧ win1_1.index t = ![t.val, 0] ∧ win1_2.index t = ![t.val, 0]
    ∧ win1_3.index t = ![t.val * 64 - 1, 0] ∧ win1_4.index t = ![t.val, 0] ∧ win1_5.index t = ![0, 0]
    ∧ win1_6.index t = ![0, 0] ∧ win1_7.index t = ![0, 0] ∧ win1_8.index t = ![0, 0] ∧ win1_9.index t = ![0, 0]
    ∧ win1_10.index t = ![t.val, 0] ∧ win1_11.index t = ![t.val / 16, 0, 0] ∧ (grid1.coords t 0).val = t.val := by decide +kernel

/-- The product the convolution runs over. -/
def u (C : S16384x1536.Idx → EReal) (i : Fin 16384) (k : Fin 512) : EReal :=
  C (ix2 i ⟨512 + k.val, by omega⟩) * C (ix2 i ⟨1024 + k.val, by omega⟩)

/-- The product `n` positions back in the same sequence, zero before its start. -/
def back (C : S16384x1536.Idx → EReal) (n : ℕ) (i : Fin 16384) (k : Fin 512) : EReal :=
  if n ≤ i.val % 8192 then u C ⟨i.val - n, by omega⟩ k else 0

/-- The convolution path at row `i`. -/
def conv (C : S16384x1536.Idx → EReal) (cw : S3x512.Idx → EReal) (cb : Fin 512 → EReal) (i : Fin 16384) (k : Fin 512) : EReal :=
  C (ix2 i ⟨k.val, by omega⟩) * tap (cb k) (cw (ix2 0 k)) (cw (ix2 1 k)) (cw (ix2 2 k)) (back C 2 i k) (back C 1 i k) (u C i k)

/-- Row `i`, column `l` of the result. -/
def res (X : S16384x1024.Idx → EReal) (A : S16384x512.Idx → EReal) (C : S16384x1536.Idx → EReal) (G : S16384x2048.Idx → EReal)
    (cw : S3x512.Idx → EReal) (cb : S1x512.Idx → EReal) (wn wc : S512x1024.Idx → EReal) (wo : S1024x1024.Idx → EReal)
    (i : Fin 16384) (l : Fin 1024) : EReal :=
  merged (X (ix2 i l)) (fun k => A (ix2 i k))
    (conv C cw (fun k => cb (ix2 0 k)) i) (fun k => G (ix2 i k)) (fun k d => wn (ix2 k d)) (fun k d => wc (ix2 k d)) (fun d => wo (ix2 d l))

section
variable (V : (c : Dev nD) → (b : Ref sig .tc) → Buf (Elt Ideal) ((c : Thread nD τ).loc b))

set_option maxHeartbeats 1000000

theorem u_eq (t : Fin cfg1.N) (r k : Fin 512) (i : Fin 16384) (hi : i.val = t.val * 512 + r.val) :
    k1_pay5 (iblk1 V c 2 t) (ix2 r k) = u (V c main_v18_11) i k := by
  rw [pay5_apply]
  have b : ∀ k, iblk1 V c 2 t (ix2 r k) = V c main_v18_11 (ix2 i k) := fun k => by
    blk_ext [iblk1, idx1 t]
  rw [b, b]
  rfl

theorem halo_eq (t : Fin cfg1.N) (j : Fin 8) (k : Fin 512) (i : Fin 16384) (h : t.val % 16 ≠ 0) (hi : i.val + 8 = t.val * 512 + j.val) :
    k1_pay6 (grid1.coords t) (iblk1 V c 3 t) (ix2 j k) = u (V c main_v18_11) i k := by
  rw [pay6_apply, (idx1 t).2.2.2.2.2.2.2.2.2.2.2.2, if_neg h]
  have b : ∀ k, iblk1 V c 3 t (ix2 j k) = V c main_v18_11 (ix2 i k) := fun k => by
    blk_ext [iblk1, idx1 t]
  rw [b, b]
  rfl

theorem halo_zero (t : Fin cfg1.N) (j : Fin 8) (k : Fin 512) (h : t.val % 16 = 0) :
    k1_pay6 (grid1.coords t) (iblk1 V c 3 t) (ix2 j k) = 0 := by
  rw [pay6_apply, (idx1 t).2.2.2.2.2.2.2.2.2.2.2.2, if_pos h]

theorem one_back (t : Fin cfg1.N) (r k : Fin 512) (i : Fin 16384) (hi : i.val = t.val * 512 + r.val) :
    (if r.val = 0 then k1_pay6 (grid1.coords t) (iblk1 V c 3 t) (ix2 7 k) else k1_pay5 (iblk1 V c 2 t) (ix2 ⟨(r.val + 512 - 1) % 512, Nat.mod_lt _ (by decide)⟩ k))
      = back (V c main_v18_11) 1 i k := by
  unfold back
  have hr := r.isLt
  by_cases h : r.val = 0
  · rw [if_pos h]
    by_cases h0 : t.val % 16 = 0
    · rw [halo_zero c V t 7 k h0, if_neg (by omega)]
    · rw [if_pos (by omega)]
      exact halo_eq c V t 7 k _ h0 (by show i.val - 1 + 8 = t.val * 512 + 7; omega)
  · rw [if_neg h, if_pos (by omega)]
    exact u_eq c V t _ k _ (by show i.val - 1 = t.val * 512 + (r.val + 512 - 1) % 512; omega)

theorem two_back_eq (t : Fin cfg1.N) (r k : Fin 512) (i : Fin 16384) (hi : i.val = t.val * 512 + r.val) :
    (if r.val = 0 then k1_pay6 (grid1.coords t) (iblk1 V c 3 t) (ix2 6 k) else if r.val = 1 then k1_pay6 (grid1.coords t) (iblk1 V c 3 t) (ix2 7 k)
      else k1_pay5 (iblk1 V c 2 t) (ix2 ⟨(r.val + 512 - 2) % 512, Nat.mod_lt _ (by decide)⟩ k)) = back (V c main_v18_11) 2 i k := by
  unfold back
  have hr := r.isLt
  by_cases h : r.val = 0
  · rw [if_pos h]
    by_cases h0 : t.val % 16 = 0
    · rw [halo_zero c V t 6 k h0, if_neg (by omega)]
    · rw [if_pos (by omega)]
      exact halo_eq c V t 6 k _ h0 (by show i.val - 2 + 8 = t.val * 512 + 6; omega)
  · rw [if_neg h]
    by_cases h1 : r.val = 1
    · rw [if_pos h1]
      by_cases h0 : t.val % 16 = 0
      · rw [halo_zero c V t 7 k h0, if_neg (by omega)]
      · rw [if_pos (by omega)]
        exact halo_eq c V t 7 k _ h0 (by show i.val - 2 + 8 = t.val * 512 + 7; omega)
    · rw [if_neg h1, if_pos (by omega)]
      exact u_eq c V t _ k _ (by show i.val - 2 = t.val * 512 + (r.val + 512 - 2) % 512; omega)

set_option maxHeartbeats 2000000 in
theorem at_row1 (t : Fin cfg1.N) (r : Fin 512) (l : Fin 1024) (i : Fin 16384) (hi : i.val = t.val * 512 + r.val) :
    out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 r l)
      = res (V c main_v19) (V c main_v20) (V c main_v18_11) (V c main_v18_12) (V c main_arg4) (V c main_v21) (V c main_v3) (V c main_v4) (V c main_v5) i l := by
  have b0 : iblk1 V c 0 t (ix2 r l) = V c main_v19 (ix2 i l) := by blk_ext [iblk1, idx1 t]
  have b1 : ∀ k, iblk1 V c 1 t (ix2 r k) = V c main_v20 (ix2 i k) := fun k => by blk_ext [iblk1, idx1 t]
  have b2 : ∀ k, iblk1 V c 2 t (ix2 r k) = V c main_v18_11 (ix2 i k) := fun k => by blk_ext [iblk1, idx1 t]
  have b4 : ∀ k, iblk1 V c 4 t (ix2 r k) = V c main_v18_12 (ix2 i k) := fun k => by blk_ext [iblk1, idx1 t]
  have b5 : ∀ (a : Fin 3) k, iblk1 V c 5 t (ix2 a k) = V c main_arg4 (ix2 a k) := fun a k => by blk_ext [iblk1, idx1 t]
  have b6 : ∀ k, iblk1 V c 6 t (ix2 0 k) = V c main_v21 (ix2 0 k) := fun k => by blk_ext [iblk1, idx1 t]
  have b7 : ∀ k d, iblk1 V c 7 t (ix2 k d) = V c main_v3 (ix2 k d) := fun k d => by blk_ext [iblk1, idx1 t]
  have b8 : ∀ k d, iblk1 V c 8 t (ix2 k d) = V c main_v4 (ix2 k d) := fun k d => by blk_ext [iblk1, idx1 t]
  have b9 : ∀ k d, iblk1 V c 9 t (ix2 k d) = V c main_v5 (ix2 k d) := fun k d => by blk_ext [iblk1, idx1 t]
  rw [sum_apply]
  simp only [b0, b1, b2, b4, b5, b6, b7, b8, b9, one_back c V t r _ i hi, two_back_eq c V t r _ i hi, u_eq c V t r _ i hi]
  rfl

theorem final1_rows : (dat1 V c).arrAt 10 cfg1.N
    = fun i : S16384x1024.Idx => res (V c main_v19) (V c main_v20) (V c main_v18_11) (V c main_v18_12) (V c main_arg4) (V c main_v21) (V c main_v3) (V c main_v4) (V c main_v5) (i 0) (i 1) := by
  refine (dat1 V c).arrAt_eq_of_covers 10 _ (by decide +kernel) fun t hf y => ?_
  have hN : t.val < 32 := lt_of_lt_of_eq t.isLt N_1
  idx_vars y
  show (cfg1.win 10).cut (grid1.coords t) ((dat1 V c).after 10 t) _ = _
  rw [after1_10]
  have e : ((cfg1.win 10).blk t).view.emb (ix2 y0 y1) = ix2 ⟨t.val * 512 + y0.val, by omega⟩ y1 := by
    blk_ext [idx1 t]
  show _ = res _ _ _ _ _ _ _ _ _ (((cfg1.win 10).blk t).view.emb (ix2 y0 y1) 0) (((cfg1.win 10).blk t).view.emb (ix2 y0 y1) 1)
  rw [e]
  exact at_row1 c V t y0 _ _ rfl

theorem final1_state : (dat1 V c).arrAt 11 cfg1.N
    = fun i : S2x8x512.Idx => u (V c main_v18_11) ⟨(i 0).val * 8192 + (8184 + (i 1).val), by have h0 : (i 0).val < 2 := (i 0).isLt; have h1 : (i 1).val < 8 := (i 1).isLt; omega⟩ (i 2) := by
  refine (dat1 V c).arrAt_eq_of_covers 11 _ (by decide +kernel) fun t hf y => ?_
  have hN : t.val < 32 := lt_of_lt_of_eq t.isLt N_1
  have h1 : t.val % 16 = 15 := (flush1_11 t).mp hf
  idx_vars y
  show (cfg1.win 11).cut (grid1.coords t) ((dat1 V c).after 11 t) _ = _
  rw [after1_11]
  obtain rfl : y0 = 0 := Subsingleton.elim _ _
  have e : ((cfg1.win 11).blk t).view.emb (ix3 0 y1 y2) = ix3 ⟨t.val / 16, by omega⟩ y1 y2 := by
    blk_ext [idx1 t]
  refine (last_apply _ _ _ _ _ _ _ _ _ _ _ y1 y2).trans ?_
  show _ = (fun i : S2x8x512.Idx => u (V c main_v18_11) ⟨(i 0).val * 8192 + (8184 + (i 1).val), _⟩ (i 2)) (((cfg1.win 11).blk t).view.emb (ix3 0 y1 y2))
  rw [e]
  exact u_eq c V t _ y2 _ (by show t.val / 16 * 8192 + (8184 + y1.val) = t.val * 512 + (504 + y1.val); omega)

end

end Cert.PromptIdeal.Sum

end
-- ==== Proof.PromptRun.lean ====
/- The run of the prompt rows' program, and its results in terms of its arguments. -/
module

public import proofs.«01_k».proof.Proof.PromptKernel

@[expose] public section

set_option maxRecDepth 16384

noncomputable section

namespace Cert.PromptIdeal.Sum

open Cert.PromptIdeal Cert.PromptIdeal.Gen Cert.Layer Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The whole program ends with every array at its contents after the last stretch. -/
theorem run_all : θ_run (defs (F := Ideal)) (onTc (τ := τ) (main (F := Ideal))) ⟨m, fun _ => 0, ρ⟩
    (fun r => ∀ c : Dev nD, ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

abbrev A : S2x8192x512.Idx → EReal := m ((c.tc : Thread nD τ).loc main_arg1)
abbrev CW : S3x512.Idx → EReal := m ((c.tc : Thread nD τ).loc main_arg4)
abbrev CB : S512.Idx → EReal := m ((c.tc : Thread nD τ).loc main_arg5)
abbrev WN : S512x1024.Idx → EReal := m ((c.tc : Thread nD τ).loc main_arg6)
abbrev WC : S512x1024.Idx → EReal := m ((c.tc : Thread nD τ).loc main_arg7)
abbrev WO : S1024x1024.Idx → EReal := m ((c.tc : Thread nD τ).loc main_arg8)

/-- The rows of an array of sequences, the batch and the position joined. -/
def joined {n : ℕ} (x : (⟨3, ![2, 8192, n]⟩ : Shape).Idx → EReal) (i : (⟨2, ![16384, n]⟩ : Shape).Idx) : EReal :=
  x (ix3 ⟨(i 0).val / 8192, by have h : (i 0).val < 16384 := (i 0).isLt; omega⟩ ⟨(i 0).val % 8192, Nat.mod_lt _ (by decide)⟩ (i 1))

theorem V5_x : V5 m ρ c main_v19 = joined (X m c) := by
  funext i
  idx_vars i
  show StableHlo.after hostOps1 (W4 m ρ c) _ _ = _
  simp only [hostOps1]
  after_reads_at
  exact congrFun (W4_args m ρ c main_arg0 (by decide)) _

theorem V5_a : V5 m ρ c main_v20 = joined (A m c) := by
  funext i
  idx_vars i
  show StableHlo.after hostOps1 (W4 m ρ c) _ _ = _
  simp only [hostOps1]
  after_reads_at
  exact congrFun (W4_args m ρ c main_arg1 (by decide)) _

theorem V5_b : V5 m ρ c main_v21 = fun i : S1x512.Idx => CB m c (ix1 (i 1)) := by
  funext i
  idx_vars i
  show StableHlo.after hostOps1 (W4 m ρ c) _ _ = _
  simp only [hostOps1]
  after_reads_at
  exact congrFun (W4_args m ρ c main_arg5 (by decide)) _

theorem V5_c : V5 m ρ c main_v18_11 = slab (X m c) (G m c) (W m c) 1408 1536 (by decide) :=
  (W5_of m ρ c main_v18_11 (by decide)).trans ((W4_arr m ρ c 14).trans (final0_rows m ρ c).2.2.2.2.2.1)

theorem V5_g : V5 m ρ c main_v18_12 = slab (X m c) (G m c) (W m c) 2944 2048 (by decide) :=
  (W5_of m ρ c main_v18_12 (by decide)).trans ((W4_arr m ρ c 15).trans (final0_rows m ρ c).2.2.2.2.2.2)

/-- What the operations before the first kernel leave in an array neither it nor the next operations write. -/
theorem early (r : Ref sig .tc) (h1 : r ∉ hostOps1_W) (h : ∀ w : Fin cfg0.W, Pipeline.arrRef spec0 w = r → (cfg0.win w).isOut = false)
    (h2 : r ∉ hostOps0_1_W) (h3 : r ∉ hostOps0_2_W) : V5 m ρ c r = W1 m ρ c (Proc.devRef .tc r) :=
  (W5_of m ρ c r h1).trans ((W4_of m ρ c r h).trans ((W3_of m ρ c r h3).trans (W2_of m ρ c r h2)))

theorem V5_n : V5 m ρ c main_v3 = fun i : S512x1024.Idx => WN m c (ix2 (swap (i 0)) (i 1)) := by
  refine (early m ρ c main_v3 (by decide) (by decide +kernel) (by decide) (by decide)).trans ?_
  funext i
  idx_vars i
  show StableHlo.after hostOps0 (W0 m ρ c) _ _ = _
  simp only [hostOps0]
  after_reads_at
  rfl

theorem V5_wc : V5 m ρ c main_v4 = WC m c := by
  refine (early m ρ c main_v4 (by decide) (by decide +kernel) (by decide) (by decide)).trans ?_
  funext i
  idx_vars i
  show StableHlo.after hostOps0 (W0 m ρ c) _ _ = _
  simp only [hostOps0]
  after_reads_at

theorem V5_wo : V5 m ρ c main_v5 = WO m c := by
  refine (early m ρ c main_v5 (by decide) (by decide +kernel) (by decide) (by decide)).trans ?_
  funext i
  idx_vars i
  show StableHlo.after hostOps0 (W0 m ρ c) _ _ = _
  simp only [hostOps0]
  after_reads_at

/-- The merged rows. -/
def rowsOut (x : S2x8192x1024.Idx → EReal) (a : S2x8192x512.Idx → EReal) (g : S1024.Idx → EReal) (w : S1024x4888.Idx → EReal)
    (cw : S3x512.Idx → EReal) (cb : S512.Idx → EReal) (wn wc : S512x1024.Idx → EReal) (wo : S1024x1024.Idx → EReal) (i : S16384x1024.Idx) : EReal :=
  res (joined x) (joined a) (slab x g w 1408 1536 (by decide)) (slab x g w 2944 2048 (by decide)) cw (fun i => cb (ix1 (i 1)))
    (fun i => wn (ix2 (swap (i 0)) (i 1))) wc wo (i 0) (i 1)

/-- The last eight products of each sequence. -/
def lastOut (x : S2x8192x1024.Idx → EReal) (g : S1024.Idx → EReal) (w : S1024x4888.Idx → EReal) (i : S2x8x512.Idx) : EReal :=
  u (slab x g w 1408 1536 (by decide)) ⟨(i 0).val * 8192 + (8184 + (i 1).val), by have h0 : (i 0).val < 2 := (i 0).isLt; have h1 : (i 1).val < 8 := (i 1).isLt; omega⟩ (i 2)

/-- An output array of the first kernel is left alone afterwards. -/
theorem late (r : Ref sig .tc) (h1 : r ∉ hostOps1_W) (h : ∀ w : Fin cfg1.W, Pipeline.arrRef spec1 w = r → (cfg1.win w).isOut = false) :
    W6 m ρ c (Proc.devRef .tc r) = W4 m ρ c (Proc.devRef .tc r) := (W6_of m ρ c r h).trans (W5_of m ρ c r h1)

theorem end_rows : W6 m ρ c (Proc.devRef .tc main_v22_0)
    = rowsOut (X m c) (A m c) (G m c) (W m c) (CW m c) (CB m c) (WN m c) (WC m c) (WO m c) := by
  refine (W6_arr m ρ c 10).trans ((final1_rows c (V5 m ρ)).trans ?_)
  rw [V5_x, V5_a, V5_c, V5_g, V5_b, V5_n, V5_wc, V5_wo, show V5 m ρ c main_arg4 = CW m c from W5_args m ρ c main_arg4 (by decide)]
  rfl

theorem end_state : W6 m ρ c (Proc.devRef .tc main_v22_1) = lastOut (X m c) (G m c) (W m c) := by
  refine (W6_arr m ρ c 11).trans ((final1_state c (V5 m ρ)).trans ?_)
  rw [V5_c]
  rfl

theorem end_q : W6 m ρ c (Proc.devRef .tc main_v18_0) = slab (X m c) (G m c) (W m c) 0 512 (by decide) :=
  (late m ρ c main_v18_0 (by decide) (by decide +kernel)).trans ((W4_arr m ρ c 3).trans (final0_rows m ρ c).1)

theorem end_kc : W6 m ρ c (Proc.devRef .tc main_v18_1) = slab (X m c) (G m c) (W m c) 512 128 (by decide) :=
  (late m ρ c main_v18_1 (by decide) (by decide +kernel)).trans ((W4_arr m ρ c 4).trans (final0_rows m ρ c).2.1)

theorem end_vc : W6 m ρ c (Proc.devRef .tc main_v18_2) = slab (X m c) (G m c) (W m c) 640 128 (by decide) :=
  (late m ρ c main_v18_2 (by decide) (by decide +kernel)).trans ((W4_arr m ρ c 5).trans (final0_rows m ρ c).2.2.1)

theorem end_kvb : W6 m ρ c (Proc.devRef .tc main_v18_9) = slab (X m c) (G m c) (W m c) 512 768 (by decide) :=
  (late m ρ c main_v18_9 (by decide) (by decide +kernel)).trans ((W4_arr m ρ c 12).trans (final0_rows m ρ c).2.2.2.1)

theorem end_gn : W6 m ρ c (Proc.devRef .tc main_v18_10) = slab (X m c) (G m c) (W m c) 1280 128 (by decide) :=
  (late m ρ c main_v18_10 (by decide) (by decide +kernel)).trans ((W4_arr m ρ c 13).trans (final0_rows m ρ c).2.2.2.2.1)

theorem end_h0 : W6 m ρ c (Proc.devRef .tc main_v18_3) = headarr (X m c) (G m c) (W m c) 512 (by decide) :=
  (late m ρ c main_v18_3 (by decide) (by decide +kernel)).trans ((W4_arr m ρ c 6).trans (final0_heads m ρ c).1)

theorem end_h1 : W6 m ρ c (Proc.devRef .tc main_v18_4) = headarr (X m c) (G m c) (W m c) 640 (by decide) :=
  (late m ρ c main_v18_4 (by decide) (by decide +kernel)).trans ((W4_arr m ρ c 7).trans (final0_heads m ρ c).2.1)

theorem end_h2 : W6 m ρ c (Proc.devRef .tc main_v18_5) = headarr (X m c) (G m c) (W m c) 768 (by decide) :=
  (late m ρ c main_v18_5 (by decide) (by decide +kernel)).trans ((W4_arr m ρ c 8).trans (final0_heads m ρ c).2.2.1)

theorem end_h3 : W6 m ρ c (Proc.devRef .tc main_v18_6) = headarr (X m c) (G m c) (W m c) 896 (by decide) :=
  (late m ρ c main_v18_6 (by decide) (by decide +kernel)).trans ((W4_arr m ρ c 9).trans (final0_heads m ρ c).2.2.2.1)

theorem end_h4 : W6 m ρ c (Proc.devRef .tc main_v18_7) = headarr (X m c) (G m c) (W m c) 1024 (by decide) :=
  (late m ρ c main_v18_7 (by decide) (by decide +kernel)).trans ((W4_arr m ρ c 10).trans (final0_heads m ρ c).2.2.2.2.1)

theorem end_h5 : W6 m ρ c (Proc.devRef .tc main_v18_8) = headarr (X m c) (G m c) (W m c) 1152 (by decide) :=
  (late m ρ c main_v18_8 (by decide) (by decide +kernel)).trans ((W4_arr m ρ c 11).trans (final0_heads m ρ c).2.2.2.2.2)

end Cert.PromptIdeal.Sum

end
-- ==== Proof.PromptValue.lean ====
/- The prompt rows' program and its plain reference leave the same thirteen arrays. -/
module

public import proofs.«01_k».proof.Defs
public import proofs.«01_k».proof.Proof.PromptRun
public import proofs.«01_k».proof.Proof.Gen.PromptRefIdeal.Run
public import proofs.«01_k».proof.Proof.Gen.PromptRefIdeal.Read
public import Idealize.ShloMosaic.Lib.Pointwise

@[expose] public section

set_option maxRecDepth 16384

noncomputable section

open Idealize.ShloMosaic Idealize.SL.Sem
open scoped BigOperators

namespace Cert.PromptRefIdeal.Sum

open Cert.PromptRefIdeal Cert.PromptRefIdeal.Read Cert.Layer
open Cert.PromptIdeal.Sum (zrow slab headarr joined u back conv res rowsOut lastOut)

set_option maxHeartbeats 1000000

variable (x : Vec Ideal S2x8192x1024 .f32) (a : Vec Ideal S2x8192x512 .bf16)
  (g : Vec Ideal S1024 .f32) (w : Vec Ideal S1024x4888 .f32) (cw : Vec Ideal S3x512 .f32) (cb : Vec Ideal S512 .f32)
  (wn wc : Vec Ideal S512x1024 .f32) (wo : Vec Ideal S1024x1024 .f32)

/-- The reference's product at a row and a column, as the joined weights give it. -/
theorem prod_zrow (i : Fin 16384) (b : Fin 2) (s : Fin 8192) (j : Fin 4992) (j' : Fin 4888) (hi : i.val = b.val * 8192 + s.val)
    (h : ∀ k, wall w k j = w (ix2 k j')) : val_main_v13 (F := Ideal) x g w (ix3 b s j') = zrow x g w i j := by
  have eb : b = ⟨i.val / 8192, Nat.div_lt_of_lt_mul (show i.val < 8192 * 2 from i.isLt)⟩ := Fin.ext (by dsimp only; omega)
  have es : s = ⟨i.val % 8192, Nat.mod_lt _ (by decide)⟩ := Fin.ext (by dsimp only; omega)
  rw [zrow, funext h, eb, es]
  pointwise [proj, rms, val_main_v0, val_main_v1, val_main_v2, val_main_v3, val_main_v4, val_main_v5, val_main_v6, val_main_v7, val_main_v8, val_main_v9, val_main_v10, val_main_v11, val_main_v12, val_main_v13, val_main_cst, val_main_cst_0, val_main_cst_1]

theorem slab_apply (o n : ℕ) (h : o + n ≤ 4992) (r : Fin 16384) (l : Fin n) :
    slab x g w o n h (ix2 r l) = zrow x g w r ⟨o + l.val, col_lt l.isLt h⟩ := rfl

theorem ref_q : val_main_v80 (F := Ideal) x g w = slab x g w 0 512 (by decide) := by
  funext i
  idx_vars i
  pointwise [val_main_v14, val_main_v77, val_main_v78, val_main_v79, val_main_v80]
  rw [slab_apply]
  exact prod_zrow x g w _ _ _ _ _ (by dsimp only; omega) fun k => wall_low w k _ _ (by dsimp only; omega) (by dsimp only; omega)

theorem ref_kv : val_main_v81 (F := Ideal) x g w = slab x g w 512 128 (by decide) ∧ val_main_v82 (F := Ideal) x g w = slab x g w 640 128 (by decide)
    ∧ val_main_v97 (F := Ideal) x g w = slab x g w 512 768 (by decide) := by
  refine ⟨?_, ?_, ?_⟩ <;> funext i <;> idx_vars i <;>
    pointwise [val_main_v15, val_main_v16, val_main_v81, val_main_v82, val_main_v95, val_main_v96, val_main_v97] <;>
    rw [slab_apply] <;>
    exact prod_zrow x g w _ _ _ _ _ (by dsimp only; omega) fun k => wall_mid w k _ _ (by dsimp only) (by dsimp only; omega) (by dsimp only; omega)

theorem ref_gn : val_main_v99 (F := Ideal) x g w = slab x g w 1280 128 (by decide) := by
  funext i
  idx_vars i
  pointwise [val_main_v21, val_main_v98, val_main_v99, val_main_call0_v0, val_main_c]
  rw [slab_apply]
  split
  · exact prod_zrow x g w _ _ _ _ _ (by dsimp only; omega) fun k => wall_mid w k _ _ (by dsimp only) (by dsimp only; omega) (by dsimp only; omega)
  · refine Eq.trans ?_ (proj_pad w _ _ _ (by dsimp only; omega) (by dsimp only; omega)).symm
    simp [FloatOps.sitofp]

theorem head_apply (o : ℕ) (h : o + 128 ≤ 4992) (b : Fin 2) (s : Fin 8192) (d : Fin 2) (e : Fin 64) (j : Fin 4888)
    (hj : j.val = o + (d.val * 64 + e.val)) (h0 : 512 ≤ o) (h1 : o + 128 ≤ 1304) :
    val_main_v13 (F := Ideal) x g w (ix3 b s j) = headarr x g w o h (ix4 b d e s) :=
  prod_zrow x g w _ _ _ ⟨o + (d.val * 64 + e.val), by omega⟩ _ rfl fun k => wall_mid w k _ _ hj (by dsimp only; omega) (by dsimp only; omega)

theorem ref_heads : val_main_v84 (F := Ideal) x g w = headarr x g w 512 (by decide) ∧ val_main_v86 (F := Ideal) x g w = headarr x g w 640 (by decide)
    ∧ val_main_v88 (F := Ideal) x g w = headarr x g w 768 (by decide) ∧ val_main_v90 (F := Ideal) x g w = headarr x g w 896 (by decide)
    ∧ val_main_v92 (F := Ideal) x g w = headarr x g w 1024 (by decide) ∧ val_main_v94 (F := Ideal) x g w = headarr x g w 1152 (by decide) := by
  refine ⟨?_, ?_, ?_, ?_, ?_, ?_⟩ <;> funext i <;> idx_vars i <;>
    pointwise [val_main_v15, val_main_v16, val_main_v17, val_main_v18, val_main_v19, val_main_v20, val_main_v83, val_main_v84, val_main_v85, val_main_v86, val_main_v87, val_main_v88, val_main_v89, val_main_v90, val_main_v91, val_main_v92, val_main_v93, val_main_v94] <;>
    exact head_apply x g w _ _ i0 i3 i1 i2 _ (by first | rfl | (dsimp only; omega)) (by decide) (by decide)

/-- A column past the gates. -/
theorem prod_slab (o n : ℕ) (h : o + n ≤ 4992) (i : Fin 16384) (b : Fin 2) (s : Fin 8192) (l : Fin n) (j : Fin 4888) (hi : i.val = b.val * 8192 + s.val)
    (hj : j.val + 104 = o + l.val) (ho : 1408 ≤ o) : val_main_v13 (F := Ideal) x g w (ix3 b s j) = slab x g w o n h (ix2 i l) :=
  prod_zrow x g w _ _ _ ⟨o + l.val, col_lt l.isLt h⟩ _ hi fun k => wall_high w k _ _ hj (by dsimp only; omega)

/-- The products with two rows of zeros before each sequence. -/
theorem padded (b : Fin 2) (s : Fin 8194) (k : Fin 512) : val_main_v33 (F := Ideal) x g w (ix3 b s k)
    = if h : 2 ≤ s.val then u (slab x g w 1408 1536 (by decide)) ⟨b.val * 8192 + (s.val - 2), by omega⟩ k else 0 := by
  pointwise [val_main_v33, val_main_v32, val_main_v31, val_main_v23, val_main_v24, val_main_cst_2]
  by_cases h : 2 ≤ s.val
  · rw [dif_neg (by omega), dif_pos h]
    exact congrArg₂ (· * ·)
      (prod_slab x g w 1408 1536 (by decide) _ _ _ _ _ rfl (by dsimp only; omega) (by decide))
      (prod_slab x g w 1408 1536 (by decide) _ _ _ _ _ rfl (by dsimp only; omega) (by decide))
  · rw [dif_pos (by omega), dif_neg h]

/-- Read `n` rows back. -/
theorem padded_back (n : ℕ) (hn : n ≤ 2) (b : Fin 2) (s : Fin 8192) (s' : Fin 8194) (k : Fin 512) (i : Fin 16384)
    (hi : i.val = b.val * 8192 + s.val) (hs : s'.val + n = s.val + 2) :
    val_main_v33 (F := Ideal) x g w (ix3 b s' k) = back (slab x g w 1408 1536 (by decide)) n i k := by
  rw [padded, back]
  by_cases h : n ≤ i.val % 8192
  · rw [if_pos h, dif_pos (by omega)]
    exact congrArg (fun j => u _ j k) (Fin.ext (by show b.val * 8192 + (s'.val - 2) = i.val - n; omega))
  · rw [if_neg h, dif_neg (by omega)]

theorem conv_apply (b : Fin 2) (s : Fin 8192) (k : Fin 512) (i : Fin 16384) (hi : i.val = b.val * 8192 + s.val) :
    val_main_v57 (F := Ideal) x g w cw cb (ix3 b s k) = conv (slab x g w 1408 1536 (by decide)) cw (fun k => cb (ix1 k)) i k := by
  pointwise [val_main_v22, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57]
  rw [padded_back x g w 2 (le_refl _) b s _ k i hi rfl, padded_back x g w 1 (by decide) b s _ k i hi (by dsimp only; omega),
    padded_back x g w 0 (by decide) b s _ k i hi (by dsimp only; omega),
    prod_slab x g w 1408 1536 (by decide) i b s ⟨k.val, by omega⟩ _ hi (by dsimp only; omega) (by decide)]
  rfl

theorem heads_apply (b : Fin 2) (s : Fin 8192) (k : Fin 512) (i : Fin 16384) (hi : i.val = b.val * 8192 + s.val) :
    val_main_v30 (F := Ideal) a (ix3 b s k) = joined a (ix2 i (swap.symm k)) := by
  pointwise [val_main_v30, val_main_v29, val_main_v28, val_main_v27]
  refine congrArg a ?_
  refine congrArg₂ (fun (b : Fin 2) (s : Fin 8192) => ix3 b s (swap.symm k)) (Fin.ext ?_) (Fin.ext ?_)
  · show b.val = i.val / 8192
    omega
  · show s.val = i.val % 8192
    omega

theorem gate_apply (b : Fin 2) (s : Fin 8192) (d : Fin 1024) (i : Fin 16384) (hi : i.val = b.val * 8192 + s.val) :
    val_main_v25 (F := Ideal) x g w (ix3 b s d) = slab x g w 2944 2048 (by decide) (ix2 i ⟨d.val, by omega⟩)
    ∧ val_main_v26 (F := Ideal) x g w (ix3 b s d) = slab x g w 2944 2048 (by decide) (ix2 i ⟨1024 + d.val, by omega⟩) := by
  constructor
  all_goals
    pointwise [val_main_v25, val_main_v26]
    exact prod_slab x g w 2944 2048 (by decide) _ _ _ _ _ hi (by dsimp only; omega) (by decide)

theorem rows_apply (i : Fin 16384) (l : Fin 1024) :
    val_main_v100 (F := Ideal) x a g w cw cb wn wc wo (ix2 i l) = rowsOut x a g w cw cb wn wc wo (ix2 i l) := by
  pointwise [val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v100, val_main_cst_3, val_main_cst_4, val_main_cst_5, val_main_cst_6]
  have hi : i.val = i.val / 8192 * 8192 + i.val % 8192 := by omega
  simp only [fun k => heads_apply a ⟨i.val / 8192, by omega⟩ ⟨i.val % 8192, by omega⟩ k i hi,
    fun k => conv_apply x g w cw cb ⟨i.val / 8192, by omega⟩ ⟨i.val % 8192, by omega⟩ k i hi,
    fun d => (gate_apply x g w ⟨i.val / 8192, by omega⟩ ⟨i.val % 8192, by omega⟩ d i hi).1,
    fun d => (gate_apply x g w ⟨i.val / 8192, by omega⟩ ⟨i.val % 8192, by omega⟩ d i hi).2, sum_swap (fun k => joined a (ix2 i k))]
  rfl

theorem ref_out : val_main_v100 (F := Ideal) x a g w cw cb wn wc wo = rowsOut x a g w cw cb wn wc wo := by
  funext i
  idx_vars i
  exact rows_apply x a g w cw cb wn wc wo i0 i1

theorem ref_last : val_main_v101 (F := Ideal) x g w = lastOut x g w := by
  funext i
  idx_vars i
  pointwise [val_main_v101]
  rw [padded, dif_pos (by dsimp only; omega)]
  exact congrArg (fun j => u _ j i2) (Fin.ext (by show i0.val * 8192 + (8186 + i1.val - 2) = i0.val * 8192 + (8184 + i1.val); omega))

end Cert.PromptRefIdeal.Sum

namespace Cert.Proof

open Cert.PromptIdeal.Gen Cert.PromptIdeal.Sum Cert.PromptRefIdeal.Sum Cert.PromptRefIdeal.Read

set_option maxHeartbeats 4000000 in
/-- The kernel program and the reference end with the same arrays, each having left its arguments as they were. -/
theorem prompt_algebraic : Cert.algebraic_PromptIdeal_PromptRefIdeal := fun m ρ m' ρ' _ hag =>
  ⟨fun c => W6 m ρ c (Proc.devRef .tc Cert.PromptIdeal.main_v18_0), fun c => W6 m ρ c (Proc.devRef .tc Cert.PromptIdeal.main_v18_1), fun c => W6 m ρ c (Proc.devRef .tc Cert.PromptIdeal.main_v18_2), fun c => W6 m ρ c (Proc.devRef .tc Cert.PromptIdeal.main_v18_3), fun c => W6 m ρ c (Proc.devRef .tc Cert.PromptIdeal.main_v18_4), fun c => W6 m ρ c (Proc.devRef .tc Cert.PromptIdeal.main_v18_5), fun c => W6 m ρ c (Proc.devRef .tc Cert.PromptIdeal.main_v18_6), fun c => W6 m ρ c (Proc.devRef .tc Cert.PromptIdeal.main_v18_7), fun c => W6 m ρ c (Proc.devRef .tc Cert.PromptIdeal.main_v18_8), fun c => W6 m ρ c (Proc.devRef .tc Cert.PromptIdeal.main_v18_9), fun c => W6 m ρ c (Proc.devRef .tc Cert.PromptIdeal.main_v18_10), fun c => W6 m ρ c (Proc.devRef .tc Cert.PromptIdeal.main_v22_0), fun c => W6 m ρ c (Proc.devRef .tc Cert.PromptIdeal.main_v22_1),
    (θ_run _ _ _).mono (fun _ h c => ⟨h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.2 c⟩) (θ_run_and (run_all m ρ) (unchanged m ρ)),
    (θ_run _ _ _).mono (fun _ h c => by
      obtain ⟨h0, h1, h2, h3, h4, h5, h6, h7, h8⟩ := hag c
      refine ⟨?_, ?_, ?_, ?_, ?_, ?_, ?_, ?_, ?_, ?_, ?_, ?_, ?_, (h c).2.2.2.2.2.2.2.2.2.2.2.2.2⟩
      · refine (h c).1.trans (Eq.trans ?_ (end_q m ρ c).symm)
        rw [val_main_v80_eq, h0, h2, h3]
        exact ref_q _ _ _
      · refine (h c).2.1.trans (Eq.trans ?_ (end_kc m ρ c).symm)
        rw [val_main_v81_eq, h0, h2, h3]
        exact (ref_kv _ _ _).1
      · refine (h c).2.2.1.trans (Eq.trans ?_ (end_vc m ρ c).symm)
        rw [val_main_v82_eq, h0, h2, h3]
        exact (ref_kv _ _ _).2.1
      · refine (h c).2.2.2.1.trans (Eq.trans ?_ (end_h0 m ρ c).symm)
        rw [val_main_v84_eq, h0, h2, h3]
        exact (ref_heads _ _ _).1
      · refine (h c).2.2.2.2.1.trans (Eq.trans ?_ (end_h1 m ρ c).symm)
        rw [val_main_v86_eq, h0, h2, h3]
        exact (ref_heads _ _ _).2.1
      · refine (h c).2.2.2.2.2.1.trans (Eq.trans ?_ (end_h2 m ρ c).symm)
        rw [val_main_v88_eq, h0, h2, h3]
        exact (ref_heads _ _ _).2.2.1
      · refine (h c).2.2.2.2.2.2.1.trans (Eq.trans ?_ (end_h3 m ρ c).symm)
        rw [val_main_v90_eq, h0, h2, h3]
        exact (ref_heads _ _ _).2.2.2.1
      · refine (h c).2.2.2.2.2.2.2.1.trans (Eq.trans ?_ (end_h4 m ρ c).symm)
        rw [val_main_v92_eq, h0, h2, h3]
        exact (ref_heads _ _ _).2.2.2.2.1
      · refine (h c).2.2.2.2.2.2.2.2.1.trans (Eq.trans ?_ (end_h5 m ρ c).symm)
        rw [val_main_v94_eq, h0, h2, h3]
        exact (ref_heads _ _ _).2.2.2.2.2
      · refine (h c).2.2.2.2.2.2.2.2.2.1.trans (Eq.trans ?_ (end_kvb m ρ c).symm)
        rw [val_main_v97_eq, h0, h2, h3]
        exact (ref_kv _ _ _).2.2
      · refine (h c).2.2.2.2.2.2.2.2.2.2.1.trans (Eq.trans ?_ (end_gn m ρ c).symm)
        rw [val_main_v99_eq, h0, h2, h3]
        exact ref_gn _ _ _
      · refine (h c).2.2.2.2.2.2.2.2.2.2.2.1.trans (Eq.trans ?_ (end_rows m ρ c).symm)
        rw [val_main_v100_eq, h0, h1, h2, h3, h4, h5, h6, h7, h8]
        exact ref_out _ _ _ _ _ _ _ _ _
      · refine (h c).2.2.2.2.2.2.2.2.2.2.2.2.1.trans (Eq.trans ?_ (end_state m ρ c).symm)
        rw [val_main_v101_eq, h0, h2, h3]
        exact ref_last _ _ _) (Cert.PromptRefIdeal.Value.run m' ρ')⟩

end Cert.Proof

end
-- ==== Proof.DecKernel.lean ====
/- What the two kernels of the decoding rows store, and the whole arrays they leave. -/
module

public import proofs.«01_k».proof.Proof.Columns
public import proofs.«01_k».proof.Proof.Conv
public import proofs.«01_k».proof.Proof.Gen.DecIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.DecIdeal.Sum

open Cert.DecIdeal Cert.DecIdeal.Gen Cert.Layer Idealize.ShloMosaic Idealize.ShloMosaic.TcCoe Idealize.SL.Sem
open Idealize.ShloMosaic.Pipeline (Dat)
open scoped BigOperators

section
variable (x : Vec Ideal S128x1024 .f32) (g : Vec Ideal S1x1024 .f32) (w : Vec Ideal S1024x4992 .bf16)

/-- Row `r` against column `c` of the joined weights. -/
def z (r : Fin 128) (c : Fin 4992) : EReal := proj (fun k => x (ix2 r k)) (fun k => g (ix2 0 k)) (fun k => w (ix2 k c))

/-- The outputs: the queries, six slices of keys and values, their joint copy, the gates, the convolution's columns, the merge's gates. -/
theorem out_apply (r : Fin 128) :
    (∀ l : Fin 512, out0_3 x g w (ix2 r l) = z x g w r ⟨0 + l.val, by omega⟩)
    ∧ (∀ l : Fin 128, out0_4 x g w (ix2 r l) = z x g w r ⟨512 + l.val, by omega⟩)
    ∧ (∀ l : Fin 128, out0_5 x g w (ix2 r l) = z x g w r ⟨640 + l.val, by omega⟩)
    ∧ (∀ l : Fin 128, out0_6 x g w (ix2 r l) = z x g w r ⟨768 + l.val, by omega⟩)
    ∧ (∀ l : Fin 128, out0_7 x g w (ix2 r l) = z x g w r ⟨896 + l.val, by omega⟩)
    ∧ (∀ l : Fin 128, out0_8 x g w (ix2 r l) = z x g w r ⟨1024 + l.val, by omega⟩)
    ∧ (∀ l : Fin 128, out0_9 x g w (ix2 r l) = z x g w r ⟨1152 + l.val, by omega⟩)
    ∧ (∀ l : Fin 768, out0_10 x g w (ix2 r l) = z x g w r ⟨512 + l.val, by omega⟩)
    ∧ (∀ l : Fin 128, out0_11 x g w (ix2 r l) = z x g w r ⟨1280 + l.val, by omega⟩)
    ∧ (∀ l : Fin 1536, out0_12 x g w (ix2 r l) = z x g w r ⟨1408 + l.val, by omega⟩)
    ∧ (∀ l : Fin 2048, out0_13 x g w (ix2 r l) = z x g w r ⟨2944 + l.val, by omega⟩) := by
  unfold out0_3 out0_4 out0_5 out0_6 out0_7 out0_8 out0_9 out0_10 out0_11 out0_12 out0_13
  refine ⟨?_, ?_, ?_, ?_, ?_, ?_, ?_, ?_, ?_, ?_, ?_⟩ <;> intro l <;> frame_out <;> pointwise [k0_pay1, k0_pay2, k0_pay3, k0_pay4, k0_pay5, k0_pay6, k0_pay7, k0_pay8, k0_pay9, k0_pay10, k0_pay11, k0_pay12, k0_pay13, k0_pay14, k0_pay15, z, proj, rms] <;> try simp only [← Nat.add_assoc, Nat.reduceAdd]

end

/-- Row `i` of the products, the two kept rows of each sequence before the new ones. -/
def up (C : S128x1536.Idx → EReal) (P : S64x512.Idx → EReal) (i : Fin 192) (k : Fin 512) : EReal :=
  if h : i.val < 64 then P (ix2 ⟨i.val, h⟩ k)
  else C (ix2 ⟨i.val - 64, by omega⟩ ⟨512 + k.val, by omega⟩) * C (ix2 ⟨i.val - 64, by omega⟩ ⟨1024 + k.val, by omega⟩)

/-- The convolution path at row `r`: a position's rows stand thirty-two apart. -/
def conv (C : S128x1536.Idx → EReal) (P : S64x512.Idx → EReal) (cw : S3x512.Idx → EReal) (cb : Fin 512 → EReal) (r : Fin 128) (k : Fin 512) : EReal :=
  C (ix2 r ⟨k.val, by omega⟩) * tap (cb k) (cw (ix2 0 k)) (cw (ix2 1 k)) (cw (ix2 2 k))
    (up C P ⟨r.val, by omega⟩ k) (up C P ⟨32 + r.val, by omega⟩ k) (up C P ⟨64 + r.val, by omega⟩ k)

section
variable (x0 : Vec Ideal S128x1024 .f32) (x1 : Vec Ideal S128x512 .f32) (x2 : Vec Ideal S128x1536 .f32)
  (x3 : Vec Ideal S64x512 .f32) (x4 : Vec Ideal S128x2048 .f32) (x5 : Vec Ideal S3x512 .f32) (x6 : Vec Ideal S1x512 .f32)
  (x7 x8 : Vec Ideal S512x1024 .bf16) (x9 : Vec Ideal S1024x1024 .bf16)

theorem pay4_apply (i : Fin 192) (k : Fin 512) : k1_pay4 x2 x3 (ix2 i k) = up x2 x3 i k := by
  pointwise [k1_pay4, k1_pay3]
  rfl

theorem sum_apply (r : Fin 128) (l : Fin 1024) :
    out1_10 x0 x1 x2 x3 x4 x5 x6 x7 x8 x9 (ix2 r l)
      = merged (x0 (ix2 r l)) (fun k => x1 (ix2 r k)) (conv x2 x3 x5 (fun k => x6 (ix2 0 k)) r)
          (fun k => x4 (ix2 r k)) (fun k d => x7 (ix2 k d)) (fun k d => x8 (ix2 k d)) (fun d => x9 (ix2 d l)) := by
  unfold out1_10
  frame_out
  pointwise [k1_pay1, k1_pay3, k1_pay5, k1_pay6, k1_pay7, k1_pay8, k1_pay9, k1_pay10, merged, conv, tap]
  simp only [pay4_apply]

theorem last_apply (j : Fin 64) (k : Fin 512) :
    out1_11 x0 x1 x2 x3 x4 x5 x6 x7 x8 x9 (ix2 j k) = up x2 x3 ⟨128 + j.val, by omega⟩ k := by
  unfold out1_11
  frame_out
  pointwise [k1_pay2]
  rw [pay4_apply]

end

variable (m : (ℓ : Loc nD τ sig) → Buf (Elt Ideal) ℓ) (ρ : Dev nD → PrngReg) (c : Dev nD)

abbrev X : S32x4x1024.Idx → EReal := m ((c.tc : Thread nD τ).loc main_arg0)
abbrev G : S1024.Idx → EReal := m ((c.tc : Thread nD τ).loc main_arg5)
abbrev W : S1024x4888.Idx → EReal := m ((c.tc : Thread nD τ).loc main_arg6)
abbrev WN : S512x1024.Idx → EReal := m ((c.tc : Thread nD τ).loc main_arg9)

theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] := by decide +kernel

theorem V_x (i : Fin 128) (k : Fin 1024) : V3 m ρ c main_v6 (ix2 i k) = X m c (ix3 ⟨i.val / 4, by omega⟩ ⟨i.val % 4, by omega⟩ k) := by
  refine (congrFun ((W3_of m ρ c main_v6 (by decide)).trans (W2_of m ρ c main_v6 (by decide))) _).trans ?_
  show StableHlo.after hostOps0 (W0 m ρ c) _ _ = _
  simp only [hostOps0]
  after_reads_at

theorem V_g (k : Fin 1024) : V3 m ρ c main_v7 (ix2 0 k) = G m c (ix1 k) := by
  refine (congrFun ((W3_of m ρ c main_v7 (by decide)).trans (W2_of m ρ c main_v7 (by decide))) _).trans ?_
  show StableHlo.after hostOps0 (W0 m ρ c) _ _ = _
  simp only [hostOps0]
  after_reads_at

theorem V_w (k : Fin 1024) (j : Fin 4992) : V3 m ρ c main_v17 (ix2 k j) = wall (W m c) k j := by
  show StableHlo.after hostOps0_2 (StableHlo.after hostOps0_1 (StableHlo.after hostOps0 (W0 m ρ c))) _ _ = _
  simp only [hostOps0, hostOps0_1, hostOps0_2]
  after_reads_at
  after_reads_at
  have hz : FloatOps.sitofp (F := Ideal) FTy.f32 0#32 = (0 : EReal) := by simp [FloatOps.sitofp]
  have hj := j.isLt
  unfold wall
  repeat' split
  all_goals first
    | omega
    | exact hz
    | exact congrArg (fun l => W m c (ix2 k l)) (Fin.ext (by first | rfl | (dsimp only; omega)))

/-- Row `i` of the normalised argument, the sequence and the position joined, against column `j` of the joined weights. -/
def zrow (x : S32x4x1024.Idx → EReal) (g : S1024.Idx → EReal) (w : S1024x4888.Idx → EReal) (i : Fin 128) (j : Fin 4992) : EReal :=
  proj (fun k => x (ix3 ⟨i.val / 4, by omega⟩ ⟨i.val % 4, by omega⟩ k)) (fun k => g (ix1 k)) (fun k => wall w k j)

/-- The columns from `o` on of every row. -/
def slab (x : S32x4x1024.Idx → EReal) (g : S1024.Idx → EReal) (w : S1024x4888.Idx → EReal) (o n : ℕ) (h : o + n ≤ 4992)
    (i : (⟨2, ![128, n]⟩ : Shape).Idx) : EReal := zrow x g w (i 0) ⟨o + (i 1).val, col_lt (i 1).isLt h⟩

theorem at_row (t : Fin cfg0.N) (r : Fin 128) (j : Fin 4992) (i : Fin 128) (j' : Fin 4992) (hi : i.val = r.val) (hj : j.val = j'.val) :
    z (iblk0 (V3 m ρ) c 0 t) (iblk0 (V3 m ρ) c 1 t) (iblk0 (V3 m ρ) c 2 t) r j = zrow (X m c) (G m c) (W m c) i j' := by
  have ei : r = i := Fin.ext hi.symm
  have ej : j = j' := Fin.ext hj
  have b0 : ∀ k, iblk0 (V3 m ρ) c 0 t (ix2 r k) = V3 m ρ c main_v6 (ix2 r k) := fun k => by
    blk_ext [iblk0, idx t]
  have b1 : ∀ k, iblk0 (V3 m ρ) c 1 t (ix2 0 k) = V3 m ρ c main_v7 (ix2 0 k) := fun k => by
    blk_ext [iblk0, idx t]
  have b2 : ∀ k, iblk0 (V3 m ρ) c 2 t (ix2 k j) = V3 m ρ c main_v17 (ix2 k j) := fun k => by
    blk_ext [iblk0, idx t]
  unfold z zrow
  rw [funext fun k => (b0 k).trans (V_x m ρ c r k), funext fun k => (b1 k).trans (V_g m ρ c k), funext fun k => (b2 k).trans (V_w m ρ c k j), ei, ej]

set_option maxHeartbeats 2000000 in
/-- The arrays left. -/
theorem final0 : (dat0 (V3 m ρ) c).arrAt 3 cfg0.N = slab (X m c) (G m c) (W m c) 0 512 (by decide)
    ∧ (dat0 (V3 m ρ) c).arrAt 4 cfg0.N = slab (X m c) (G m c) (W m c) 512 128 (by decide)
    ∧ (dat0 (V3 m ρ) c).arrAt 5 cfg0.N = slab (X m c) (G m c) (W m c) 640 128 (by decide)
    ∧ (dat0 (V3 m ρ) c).arrAt 6 cfg0.N = slab (X m c) (G m c) (W m c) 768 128 (by decide)
    ∧ (dat0 (V3 m ρ) c).arrAt 7 cfg0.N = slab (X m c) (G m c) (W m c) 896 128 (by decide)
    ∧ (dat0 (V3 m ρ) c).arrAt 8 cfg0.N = slab (X m c) (G m c) (W m c) 1024 128 (by decide)
    ∧ (dat0 (V3 m ρ) c).arrAt 9 cfg0.N = slab (X m c) (G m c) (W m c) 1152 128 (by decide)
    ∧ (dat0 (V3 m ρ) c).arrAt 10 cfg0.N = slab (X m c) (G m c) (W m c) 512 768 (by decide)
    ∧ (dat0 (V3 m ρ) c).arrAt 11 cfg0.N = slab (X m c) (G m c) (W m c) 1280 128 (by decide)
    ∧ (dat0 (V3 m ρ) c).arrAt 12 cfg0.N = slab (X m c) (G m c) (W m c) 1408 1536 (by decide)
    ∧ (dat0 (V3 m ρ) c).arrAt 13 cfg0.N = slab (X m c) (G m c) (W m c) 2944 2048 (by decide) := by
  refine ⟨?_, ?_, ?_, ?_, ?_, ?_, ?_, ?_, ?_, ?_, ?_⟩
  all_goals
    refine (dat0 (V3 m ρ) c).arrAt_eq_of_covers _ _ (by decide +kernel) fun t hf y => ?_
    idx_vars y
    show (cfg0.win _).cut (grid0.coords t) ((dat0 (V3 m ρ) c).after _ t) _ = _
    simp only [after0_3, after0_4, after0_5, after0_6, after0_7, after0_8, after0_9, after0_10, after0_11, after0_12, after0_13]
  · exact ((out_apply _ _ _ _).1 _).trans (at_row m ρ c t y0 _ _ _ (by blk_ext [idx t]) (by blk_ext [idx t]))
  · exact ((out_apply _ _ _ _).2.1 _).trans (at_row m ρ c t y0 _ _ _ (by blk_ext [idx t]) (by blk_ext [idx t]))
  · exact ((out_apply _ _ _ _).2.2.1 _).trans (at_row m ρ c t y0 _ _ _ (by blk_ext [idx t]) (by blk_ext [idx t]))
  · exact ((out_apply _ _ _ _).2.2.2.1 _).trans (at_row m ρ c t y0 _ _ _ (by blk_ext [idx t]) (by blk_ext [idx t]))
  · exact ((out_apply _ _ _ _).2.2.2.2.1 _).trans (at_row m ρ c t y0 _ _ _ (by blk_ext [idx t]) (by blk_ext [idx t]))
  · exact ((out_apply _ _ _ _).2.2.2.2.2.1 _).trans (at_row m ρ c t y0 _ _ _ (by blk_ext [idx t]) (by blk_ext [idx t]))
  · exact ((out_apply _ _ _ _).2.2.2.2.2.2.1 _).trans (at_row m ρ c t y0 _ _ _ (by blk_ext [idx t]) (by blk_ext [idx t]))
  · exact ((out_apply _ _ _ _).2.2.2.2.2.2.2.1 _).trans (at_row m ρ c t y0 _ _ _ (by blk_ext [idx t]) (by blk_ext [idx t]))
  · exact ((out_apply _ _ _ _).2.2.2.2.2.2.2.2.1 _).trans (at_row m ρ c t y0 _ _ _ (by blk_ext [idx t]) (by blk_ext [idx t]))
  · exact ((out_apply _ _ _ _).2.2.2.2.2.2.2.2.2.1 _).trans (at_row m ρ c t y0 _ _ _ (by blk_ext [idx t]) (by blk_ext [idx t]))
  · exact ((out_apply _ _ _ _).2.2.2.2.2.2.2.2.2.2 _).trans (at_row m ρ c t y0 _ _ _ (by blk_ext [idx t]) (by blk_ext [idx t]))

theorem idx1 : ∀ t : Fin grid1.N, win1_0.index t = ![0, 0] ∧ win1_1.index t = ![0, 0] ∧ win1_2.index t = ![0, 0]
    ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0]
    ∧ win1_10.index t = ![0, 0] ∧ win1_11.index t = ![0, 0] := by decide +kernel

/-- Row `r`, column `l` of the result. -/
def res (X : S128x1024.Idx → EReal) (A : S128x512.Idx → EReal) (C : S128x1536.Idx → EReal) (P : S64x512.Idx → EReal) (G : S128x2048.Idx → EReal)
    (cw : S3x512.Idx → EReal) (cb : S1x512.Idx → EReal) (wn wc : S512x1024.Idx → EReal) (wo : S1024x1024.Idx → EReal)
    (r : Fin 128) (l : Fin 1024) : EReal :=
  merged (X (ix2 r l)) (fun k => A (ix2 r k)) (conv C P cw (fun k => cb (ix2 0 k)) r) (fun k => G (ix2 r k))
    (fun k d => wn (ix2 k d)) (fun k d => wc (ix2 k d)) (fun d => wo (ix2 d l))

section
variable (V : (c : Dev nD) → (b : Ref sig .tc) → Buf (Elt Ideal) ((c : Thread nD τ).loc b))

set_option maxHeartbeats 2000000 in
/-- Every window of the second kernel is its whole array. -/
theorem whole (t : Fin cfg1.N) : iblk1 V c 0 t = V c main_v25 ∧ iblk1 V c 1 t = V c main_v21 ∧ iblk1 V c 2 t = V c main_v28
    ∧ iblk1 V c 3 t = V c main_v23 ∧ iblk1 V c 4 t = V c main_v31 ∧ iblk1 V c 5 t = V c main_arg7
    ∧ iblk1 V c 6 t = V c main_v32 ∧ iblk1 V c 7 t = V c main_v3 ∧ iblk1 V c 8 t = V c main_v4 ∧ iblk1 V c 9 t = V c main_v5 := by
  refine ⟨?_, ?_, ?_, ?_, ?_, ?_, ?_, ?_, ?_, ?_⟩ <;> funext y <;> idx_vars y <;> blk_ext [iblk1, idx1 t]

theorem final1_rows : (dat1 V c).arrAt 10 cfg1.N
    = fun i : S128x1024.Idx => res (V c main_v25) (V c main_v21) (V c main_v28) (V c main_v23) (V c main_v31) (V c main_arg7) (V c main_v32)
        (V c main_v3) (V c main_v4) (V c main_v5) (i 0) (i 1) := by
  refine (dat1 V c).arrAt_eq_of_covers 10 _ (by decide +kernel) fun t hf y => ?_
  idx_vars y
  show (cfg1.win 10).cut (grid1.coords t) ((dat1 V c).after 10 t) _ = _
  rw [after1_10]
  have e : ((cfg1.win 10).blk t).view.emb (ix2 y0 y1) = ix2 y0 y1 := by
    blk_ext [idx1 t]
  show _ = res _ _ _ _ _ _ _ _ _ _ (((cfg1.win 10).blk t).view.emb (ix2 y0 y1) 0) (((cfg1.win 10).blk t).view.emb (ix2 y0 y1) 1)
  obtain ⟨h0, h1, h2, h3, h4, h5, h6, h7, h8, h9⟩ := whole c V t
  rw [e, h0, h1, h2, h3, h4, h5, h6, h7, h8, h9]
  exact sum_apply _ _ _ _ _ _ _ _ _ _ y0 y1

theorem final1_state : (dat1 V c).arrAt 11 cfg1.N
    = fun i : S64x512.Idx => up (V c main_v28) (V c main_v23) ⟨128 + (i 0).val, by have h0 : (i 0).val < 64 := (i 0).isLt; omega⟩ (i 1) := by
  refine (dat1 V c).arrAt_eq_of_covers 11 _ (by decide +kernel) fun t hf y => ?_
  idx_vars y
  show (cfg1.win 11).cut (grid1.coords t) ((dat1 V c).after 11 t) _ = _
  rw [after1_11]
  have e : ((cfg1.win 11).blk t).view.emb (ix2 y0 y1) = ix2 y0 y1 := by
    blk_ext [idx1 t]
  refine (last_apply _ _ _ _ _ _ _ _ _ _ y0 y1).trans ?_
  show _ = (fun i : S64x512.Idx => up (V c main_v28) (V c main_v23) ⟨128 + (i 0).val, _⟩ (i 1)) (((cfg1.win 11).blk t).view.emb (ix2 y0 y1))
  rw [e, (whole c V t).2.2.1, (whole c V t).2.2.2.1]
  rfl

end

end Cert.DecIdeal.Sum

end
-- ==== Proof.DecRun.lean ====
/- The run of the decoding rows' program, and its results in terms of its arguments. -/
module

public import proofs.«01_k».proof.Proof.DecKernel

@[expose] public section

set_option maxRecDepth 16384

noncomputable section

namespace Cert.DecIdeal.Sum

open Cert.DecIdeal Cert.DecIdeal.Gen Cert.Layer Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

local notation "𝕄" => MT nD τ sig Unit (Elt Ideal) ℕ (UR sig nD τ) ℕ

set_option backward.isDefEq.respectTransparency.types false in
/-- The whole program ends with every array at its contents after the last stretch. -/
theorem run_all : θ_run (defs (F := Ideal)) (onTc (τ := τ) (main (F := Ideal))) ⟨m, fun _ => 0, ρ⟩
    (fun r => ∀ c : Dev nD, ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

abbrev A : S32x2x4x8x64.Idx → EReal := m ((c.tc : Thread nD τ).loc main_arg4)
abbrev P : S32x2x512.Idx → EReal := m ((c.tc : Thread nD τ).loc main_arg3)
abbrev CW : S3x512.Idx → EReal := m ((c.tc : Thread nD τ).loc main_arg7)
abbrev CB : S512.Idx → EReal := m ((c.tc : Thread nD τ).loc main_arg8)
abbrev WC : S512x1024.Idx → EReal := m ((c.tc : Thread nD τ).loc main_arg10)
abbrev WO : S1024x1024.Idx → EReal := m ((c.tc : Thread nD τ).loc main_arg11)
abbrev KW : S32x512x2x64.Idx → EReal := m ((c.tc : Thread nD τ).loc main_arg1)
abbrev VW : S32x512x2x64.Idx → EReal := m ((c.tc : Thread nD τ).loc main_arg2)

/-! The second kernel's arguments, the thirty-two rows of one position together. -/

theorem sub32 (i : Fin 128) : i.val / 32 < 4 := by omega
theorem seq4 (b s : ℕ) (hb : b < 32) (hs : s < 4) : b * 4 + s < 128 := by omega

/-- The layer's input. -/
def xt (x : S32x4x1024.Idx → EReal) (i : S128x1024.Idx) : EReal :=
  x (ix3 ⟨(i 0).val % 32, Nat.mod_lt _ (by decide)⟩ ⟨(i 0).val / 32, sub32 (i 0)⟩ (i 1))

/-- The attention's rows, their columns by group, head and lane. -/
def attn (a : S32x2x4x8x64.Idx → EReal) (i : S128x512.Idx) : EReal :=
  a (ix5 ⟨(i 0).val % 32, Nat.mod_lt _ (by decide)⟩ ⟨(i 1).val / 64 % 2, Nat.mod_lt _ (by decide)⟩ ⟨(i 0).val / 32, sub32 (i 0)⟩
    ⟨(i 1).val / 128, by have h : (i 1).val < 512 := (i 1).isLt; omega⟩ ⟨(i 1).val % 64, Nat.mod_lt _ (by decide)⟩)

/-- The kept products. -/
def kept (p : S32x2x512.Idx → EReal) (i : S64x512.Idx) : EReal :=
  p (ix3 ⟨(i 0).val % 32, Nat.mod_lt _ (by decide)⟩ ⟨(i 0).val / 32, by have h : (i 0).val < 64 := (i 0).isLt; omega⟩ (i 1))

/-- The projection's columns from `o` on. -/
def slabT (x : S32x4x1024.Idx → EReal) (g : S1024.Idx → EReal) (w : S1024x4888.Idx → EReal) (o n : ℕ) (h : o + n ≤ 4992)
    (i : (⟨2, ![128, n]⟩ : Shape).Idx) : EReal :=
  zrow x g w ⟨(i 0).val % 32 * 4 + (i 0).val / 32, seq4 _ _ (Nat.mod_lt _ (by decide)) (sub32 (i 0))⟩ ⟨o + (i 1).val, col_lt (i 1).isLt h⟩

theorem W4_c : W4 m ρ c (Proc.devRef .tc main_v18_9) = slab (X m c) (G m c) (W m c) 1408 1536 (by decide) :=
  (W4_arr m ρ c 12).trans (final0 m ρ c).2.2.2.2.2.2.2.2.2.1

theorem W4_g : W4 m ρ c (Proc.devRef .tc main_v18_10) = slab (X m c) (G m c) (W m c) 2944 2048 (by decide) :=
  (W4_arr m ρ c 13).trans (final0 m ρ c).2.2.2.2.2.2.2.2.2.2

theorem V5_x : V5 m ρ c main_v25 = xt (X m c) := by
  funext i
  idx_vars i
  show StableHlo.after hostOps1 (W4 m ρ c) _ _ = _
  simp only [hostOps1]
  after_reads_at
  exact congrFun (W4_args m ρ c main_arg0 (by decide)) _

theorem V5_a : V5 m ρ c main_v21 = attn (A m c) := by
  funext i
  idx_vars i
  show StableHlo.after hostOps1 (W4 m ρ c) _ _ = _
  simp only [hostOps1]
  after_reads_at
  refine (congrFun (W4_args m ρ c main_arg4 (by decide)) _).trans ?_
  refine congrArg (A m c) ?_
  blk_ext

theorem V5_p : V5 m ρ c main_v23 = kept (P m c) := by
  funext i
  idx_vars i
  show StableHlo.after hostOps1 (W4 m ρ c) _ _ = _
  simp only [hostOps1]
  after_reads_at
  exact congrFun (W4_args m ρ c main_arg3 (by decide)) _

theorem V5_c : V5 m ρ c main_v28 = slabT (X m c) (G m c) (W m c) 1408 1536 (by decide) := by
  funext i
  idx_vars i
  show StableHlo.after hostOps1 (W4 m ρ c) _ _ = _
  simp only [hostOps1]
  after_reads_at
  exact congrFun (W4_c m ρ c) _

theorem V5_g : V5 m ρ c main_v31 = slabT (X m c) (G m c) (W m c) 2944 2048 (by decide) := by
  funext i
  idx_vars i
  show StableHlo.after hostOps1 (W4 m ρ c) _ _ = _
  simp only [hostOps1]
  after_reads_at
  exact congrFun (W4_g m ρ c) _

theorem V5_b : V5 m ρ c main_v32 = fun i : S1x512.Idx => CB m c (ix1 (i 1)) := by
  funext i
  idx_vars i
  show StableHlo.after hostOps1 (W4 m ρ c) _ _ = _
  simp only [hostOps1]
  after_reads_at
  exact congrFun (W4_args m ρ c main_arg8 (by decide)) _

/-- What the operations before the first kernel leave in an array neither it nor the next operations write. -/
theorem early (r : Ref sig .tc) (h1 : r ∉ hostOps1_W) (h : ∀ w : Fin cfg0.W, Pipeline.arrRef spec0 w = r → (cfg0.win w).isOut = false)
    (h2 : r ∉ hostOps0_1_W) (h3 : r ∉ hostOps0_2_W) : V5 m ρ c r = W1 m ρ c (Proc.devRef .tc r) :=
  (W5_of m ρ c r h1).trans ((W4_of m ρ c r h).trans ((W3_of m ρ c r h3).trans (W2_of m ρ c r h2)))

theorem V5_n : V5 m ρ c main_v3 = fun i : S512x1024.Idx => WN m c (ix2 (swap (i 0)) (i 1)) := by
  refine (early m ρ c main_v3 (by decide) (by decide +kernel) (by decide) (by decide)).trans ?_
  funext i
  idx_vars i
  show StableHlo.after hostOps0 (W0 m ρ c) _ _ = _
  simp only [hostOps0]
  after_reads_at
  rfl

theorem V5_wc : V5 m ρ c main_v4 = WC m c := by
  refine (early m ρ c main_v4 (by decide) (by decide +kernel) (by decide) (by decide)).trans ?_
  funext i
  idx_vars i
  show StableHlo.after hostOps0 (W0 m ρ c) _ _ = _
  simp only [hostOps0]
  after_reads_at

theorem V5_wo : V5 m ρ c main_v5 = WO m c := by
  refine (early m ρ c main_v5 (by decide) (by decide +kernel) (by decide) (by decide)).trans ?_
  funext i
  idx_vars i
  show StableHlo.after hostOps0 (W0 m ρ c) _ _ = _
  simp only [hostOps0]
  after_reads_at

/-- The merged rows, by position and sequence. -/
def rowsOut (x : S32x4x1024.Idx → EReal) (p : S32x2x512.Idx → EReal) (a : S32x2x4x8x64.Idx → EReal) (g : S1024.Idx → EReal) (w : S1024x4888.Idx → EReal)
    (cw : S3x512.Idx → EReal) (cb : S512.Idx → EReal) (wn wc : S512x1024.Idx → EReal) (wo : S1024x1024.Idx → EReal) (i : S128x1024.Idx) : EReal :=
  res (xt x) (attn a) (slabT x g w 1408 1536 (by decide)) (kept p) (slabT x g w 2944 2048 (by decide)) cw (fun i => cb (ix1 (i 1)))
    (fun i => wn (ix2 (swap (i 0)) (i 1))) wc wo (i 0) (i 1)

/-- Rows of keys or values, the columns from `o` on. -/
def kvr (x : S32x4x1024.Idx → EReal) (g : S1024.Idx → EReal) (w : S1024x4888.Idx → EReal) (o : ℕ) (h : o + 128 ≤ 4992) (i : S32x4x2x64.Idx) : EReal :=
  zrow x g w ⟨(i 0).val * 4 + (i 1).val, seq4 _ _ (i 0).isLt (i 1).isLt⟩
    ⟨o + ((i 2).val * 64 + (i 3).val), by have h2 : (i 2).val < 2 := (i 2).isLt; have h3 : (i 3).val < 64 := (i 3).isLt; omega⟩

/-- A window moved on by four rows. -/
def moved (s : S32x512x2x64.Idx → EReal) (x : S32x4x1024.Idx → EReal) (g : S1024.Idx → EReal) (w : S1024x4888.Idx → EReal) (o : ℕ) (h : o + 128 ≤ 4992)
    (i : S32x512x2x64.Idx) : EReal :=
  if hi : 4 + (i 1).val < 512 then s (ix4 (i 0) ⟨4 + (i 1).val, hi⟩ (i 2) (i 3))
  else kvr x g w o h (ix4 (i 0) ⟨4 + (i 1).val - 512, by have h1 : (i 1).val < 512 := (i 1).isLt; omega⟩ (i 2) (i 3))

theorem moved_lt (s : S32x512x2x64.Idx → EReal) (x : S32x4x1024.Idx → EReal) (g : S1024.Idx → EReal) (w : S1024x4888.Idx → EReal) (o : ℕ) (h : o + 128 ≤ 4992)
    (i0 : Fin 32) (i1 : Fin 512) (i2 : Fin 2) (i3 : Fin 64) (hi : 4 + i1.val < 512) :
    moved s x g w o h (ix4 i0 i1 i2 i3) = s (ix4 i0 ⟨4 + i1.val, hi⟩ i2 i3) := by
  unfold moved
  exact dif_pos hi

theorem moved_ge (s : S32x512x2x64.Idx → EReal) (x : S32x4x1024.Idx → EReal) (g : S1024.Idx → EReal) (w : S1024x4888.Idx → EReal) (o : ℕ) (h : o + 128 ≤ 4992)
    (i0 : Fin 32) (i1 : Fin 512) (i2 : Fin 2) (i3 : Fin 64) (hi : ¬ 4 + i1.val < 512) :
    moved s x g w o h (ix4 i0 i1 i2 i3) = kvr x g w o h (ix4 i0 ⟨4 + i1.val - 512, by omega⟩ i2 i3) := by
  unfold moved
  exact dif_neg hi

/-- The last two products of each sequence. -/
def keptOut (x : S32x4x1024.Idx → EReal) (p : S32x2x512.Idx → EReal) (g : S1024.Idx → EReal) (w : S1024x4888.Idx → EReal) (i : S32x2x512.Idx) : EReal :=
  up (slabT x g w 1408 1536 (by decide)) (kept p)
    ⟨128 + ((i 1).val * 32 + (i 0).val), by have h0 : (i 0).val < 32 := (i 0).isLt; have h1 : (i 1).val < 2 := (i 1).isLt; omega⟩ (i 2)

/-- An output array of the first kernel is left alone until the last stretch. -/
theorem late (r : Ref sig .tc) (h1 : r ∉ hostOps1_W) (h : ∀ w : Fin cfg1.W, Pipeline.arrRef spec1 w = r → (cfg1.win w).isOut = false) :
    W6 m ρ c (Proc.devRef .tc r) = W4 m ρ c (Proc.devRef .tc r) := (W6_of m ρ c r h).trans (W5_of m ρ c r h1)

theorem end_q : W7 m ρ c (Proc.devRef .tc main_v18_0) = slab (X m c) (G m c) (W m c) 0 512 (by decide) :=
  (W7_of m ρ c main_v18_0 (by decide)).trans ((late m ρ c main_v18_0 (by decide) (by decide +kernel)).trans ((W4_arr m ρ c 3).trans (final0 m ρ c).1))

theorem end_kvb : W7 m ρ c (Proc.devRef .tc main_v18_7) = slab (X m c) (G m c) (W m c) 512 768 (by decide) :=
  (W7_of m ρ c main_v18_7 (by decide)).trans ((late m ρ c main_v18_7 (by decide) (by decide +kernel)).trans ((W4_arr m ρ c 10).trans (final0 m ρ c).2.2.2.2.2.2.2.1))

theorem end_gn : W7 m ρ c (Proc.devRef .tc main_v18_8) = slab (X m c) (G m c) (W m c) 1280 128 (by decide) :=
  (W7_of m ρ c main_v18_8 (by decide)).trans ((late m ρ c main_v18_8 (by decide) (by decide +kernel)).trans ((W4_arr m ρ c 11).trans (final0 m ρ c).2.2.2.2.2.2.2.2.1))

theorem end_rows : W7 m ρ c (Proc.devRef .tc main_v33_0)
    = rowsOut (X m c) (P m c) (A m c) (G m c) (W m c) (CW m c) (CB m c) (WN m c) (WC m c) (WO m c) := by
  refine (W7_of m ρ c main_v33_0 (by decide)).trans ((W6_arr m ρ c 10).trans ((final1_rows c (V5 m ρ)).trans ?_))
  have h7 : V5 m ρ c main_arg7 = CW m c := W5_args m ρ c main_arg7 (by decide)
  rw [V5_x, V5_a, V5_c, V5_p, V5_g, V5_b, V5_n, V5_wc, V5_wo, h7]
  rfl

theorem W6_u : W6 m ρ c (Proc.devRef .tc main_v33_1)
    = fun i : S64x512.Idx => up (slabT (X m c) (G m c) (W m c) 1408 1536 (by decide)) (kept (P m c)) ⟨128 + (i 0).val, by have h0 : (i 0).val < 64 := (i 0).isLt; omega⟩ (i 1) := by
  refine (W6_arr m ρ c 11).trans ((final1_state c (V5 m ρ)).trans ?_)
  rw [V5_c, V5_p]

theorem end_u : W7 m ρ c (Proc.devRef .tc main_v45) = keptOut (X m c) (P m c) (G m c) (W m c) := by
  funext i
  idx_vars i
  show StableHlo.after hostOps2 (W6 m ρ c) _ _ = _
  simp only [hostOps2]
  after_reads_at
  exact congrFun (W6_u m ρ c) _

theorem end_kc : W7 m ρ c (Proc.devRef .tc main_v40) = kvr (X m c) (G m c) (W m c) 512 (by decide) := by
  funext i
  idx_vars i
  show StableHlo.after hostOps2 (W6 m ρ c) _ _ = _
  simp only [hostOps2]
  after_reads_at
  exact congrFun ((late m ρ c main_v18_1 (by decide) (by decide +kernel)).trans ((W4_arr m ρ c 4).trans (final0 m ρ c).2.1)) _

theorem end_vc : W7 m ρ c (Proc.devRef .tc main_v41) = kvr (X m c) (G m c) (W m c) 640 (by decide) := by
  funext i
  idx_vars i
  show StableHlo.after hostOps2 (W6 m ρ c) _ _ = _
  simp only [hostOps2]
  after_reads_at
  exact congrFun ((late m ρ c main_v18_2 (by decide) (by decide +kernel)).trans ((W4_arr m ρ c 5).trans (final0 m ρ c).2.2.1)) _

theorem end_ks : W7 m ρ c (Proc.devRef .tc main_v42) = kvr (X m c) (G m c) (W m c) 768 (by decide) := by
  funext i
  idx_vars i
  show StableHlo.after hostOps2 (W6 m ρ c) _ _ = _
  simp only [hostOps2]
  after_reads_at
  exact congrFun ((late m ρ c main_v18_3 (by decide) (by decide +kernel)).trans ((W4_arr m ρ c 6).trans (final0 m ρ c).2.2.2.1)) _

theorem end_vs : W7 m ρ c (Proc.devRef .tc main_v43) = kvr (X m c) (G m c) (W m c) 896 (by decide) := by
  funext i
  idx_vars i
  show StableHlo.after hostOps2 (W6 m ρ c) _ _ = _
  simp only [hostOps2]
  after_reads_at
  exact congrFun ((late m ρ c main_v18_4 (by decide) (by decide +kernel)).trans ((W4_arr m ρ c 7).trans (final0 m ρ c).2.2.2.2.1)) _

theorem end_kw : W7 m ρ c (Proc.devRef .tc main_v36) = moved (KW m c) (X m c) (G m c) (W m c) 1024 (by decide) := by
  have e1 := W6_args m ρ c main_arg1 (by decide)
  have e2 := (late m ρ c main_v18_5 (by decide) (by decide +kernel)).trans ((W4_arr m ρ c 8).trans (final0 m ρ c).2.2.2.2.2.1)
  funext i
  idx_vars i
  show StableHlo.after hostOps2 (W6 m ρ c) _ _ = _
  simp only [hostOps2]
  after_reads_at
  after_reads_at
  by_cases hi : 4 + i1.val < 512
  · rw [dif_pos hi, e1]
    exact (moved_lt _ _ _ _ _ _ i0 i1 i2 i3 hi).symm
  · rw [dif_neg hi, e2]
    exact (moved_ge _ _ _ _ _ _ i0 i1 i2 i3 hi).symm

theorem end_vw : W7 m ρ c (Proc.devRef .tc main_v39) = moved (VW m c) (X m c) (G m c) (W m c) 1152 (by decide) := by
  have e1 := W6_args m ρ c main_arg2 (by decide)
  have e2 := (late m ρ c main_v18_6 (by decide) (by decide +kernel)).trans ((W4_arr m ρ c 9).trans (final0 m ρ c).2.2.2.2.2.2.1)
  funext i
  idx_vars i
  show StableHlo.after hostOps2 (W6 m ρ c) _ _ = _
  simp only [hostOps2]
  after_reads_at
  after_reads_at
  by_cases hi : 4 + i1.val < 512
  · rw [dif_pos hi, e1]
    exact (moved_lt _ _ _ _ _ _ i0 i1 i2 i3 hi).symm
  · rw [dif_neg hi, e2]
    exact (moved_ge _ _ _ _ _ _ i0 i1 i2 i3 hi).symm

end Cert.DecIdeal.Sum

end
-- ==== Proof.DecValue.lean ====
/- The decoding rows' program and its plain reference leave the same eleven arrays. -/
module

public import proofs.«01_k».proof.Defs
public import proofs.«01_k».proof.Proof.DecRun
public import proofs.«01_k».proof.Proof.Gen.DecRefIdeal.Run
public import proofs.«01_k».proof.Proof.Gen.DecRefIdeal.Read
public import Idealize.ShloMosaic.Lib.Pointwise

@[expose] public section

set_option maxRecDepth 16384

noncomputable section

open Idealize.ShloMosaic Idealize.SL.Sem
open scoped BigOperators

namespace Cert.DecRefIdeal.Sum

open Cert.DecRefIdeal Cert.DecRefIdeal.Read Cert.Layer
open Cert.DecIdeal.Sum (zrow slab slabT xt attn kept up conv res rowsOut kvr moved moved_lt moved_ge keptOut)

variable (x : Vec Ideal S32x4x1024 .f32) (kw vw : Vec Ideal S32x512x2x64 .f32) (p : Vec Ideal S32x2x512 .f32) (a : Vec Ideal S32x2x4x8x64 .f32)
  (g : Vec Ideal S1024 .f32) (w : Vec Ideal S1024x4888 .f32) (cw : Vec Ideal S3x512 .f32) (cb : Vec Ideal S512 .f32)
  (wn wc : Vec Ideal S512x1024 .f32) (wo : Vec Ideal S1024x1024 .f32)

/-- The reference's product at a row and a column, as the joined weights give it. -/
theorem prod_zrow (i : Fin 128) (b : Fin 32) (s : Fin 4) (j : Fin 4992) (j' : Fin 4888) (hi : i.val = b.val * 4 + s.val)
    (h : ∀ k, wall w k j = w (ix2 k j')) : val_main_v13 (F := Ideal) x g w (ix3 b s j') = zrow x g w i j := by
  have eb : b = ⟨i.val / 4, Nat.div_lt_of_lt_mul (show i.val < 4 * 32 from i.isLt)⟩ := Fin.ext (by dsimp only; omega)
  have es : s = ⟨i.val % 4, Nat.mod_lt _ (by decide)⟩ := Fin.ext (by dsimp only; omega)
  rw [zrow, funext h, eb, es]
  pointwise [proj, rms, val_main_v0, val_main_v1, val_main_v2, val_main_v3, val_main_v4, val_main_v5, val_main_v6, val_main_v7, val_main_v8, val_main_v9, val_main_v10, val_main_v11, val_main_v12, val_main_v13, val_main_cst, val_main_cst_0, val_main_cst_1]

theorem slab_apply (o n : ℕ) (h : o + n ≤ 4992) (r : Fin 128) (l : Fin n) :
    slab x g w o n h (ix2 r l) = zrow x g w r ⟨o + l.val, col_lt l.isLt h⟩ := rfl

theorem ref_q : val_main_v82 (F := Ideal) x g w = slab x g w 0 512 (by decide) := by
  funext i
  idx_vars i
  pointwise [val_main_v14, val_main_v79, val_main_v80, val_main_v81, val_main_v82]
  rw [slab_apply]
  exact prod_zrow x g w _ _ _ _ _ (by dsimp only; omega) fun k => wall_low w k _ _ (by dsimp only; omega) (by dsimp only; omega)

theorem ref_kvb : val_main_v85 (F := Ideal) x g w = slab x g w 512 768 (by decide) := by
  funext i
  idx_vars i
  pointwise [val_main_v83, val_main_v84, val_main_v85]
  rw [slab_apply]
  exact prod_zrow x g w _ _ _ _ _ (by dsimp only; omega) fun k => wall_mid w k _ _ (by dsimp only) (by dsimp only; omega) (by dsimp only; omega)

theorem ref_gn : val_main_v87 (F := Ideal) x g w = slab x g w 1280 128 (by decide) := by
  funext i
  idx_vars i
  pointwise [val_main_v21, val_main_v86, val_main_v87, val_main_call0_v0, val_main_c]
  rw [slab_apply]
  split
  · exact prod_zrow x g w _ _ _ _ _ (by dsimp only; omega) fun k => wall_mid w k _ _ (by dsimp only) (by dsimp only; omega) (by dsimp only; omega)
  · refine Eq.trans ?_ (proj_pad w _ _ _ (by dsimp only; omega) (by dsimp only; omega)).symm
    simp [FloatOps.sitofp]

theorem kvr_apply (o : ℕ) (h : o + 128 ≤ 4992) (b : Fin 32) (s : Fin 4) (d : Fin 2) (e : Fin 64) (j : Fin 4888)
    (hj : j.val = o + (d.val * 64 + e.val)) (h0 : 512 ≤ o) (h1 : o + 128 ≤ 1304) :
    val_main_v13 (F := Ideal) x g w (ix3 b s j) = kvr x g w o h (ix4 b s d e) :=
  prod_zrow x g w _ _ _ ⟨o + (d.val * 64 + e.val), by omega⟩ _ rfl fun k => wall_mid w k _ _ hj (by dsimp only; omega) (by dsimp only; omega)

theorem ref_rows : val_main_v90 (F := Ideal) x g w = kvr x g w 512 (by decide) ∧ val_main_v91 (F := Ideal) x g w = kvr x g w 640 (by decide)
    ∧ val_main_v92 (F := Ideal) x g w = kvr x g w 768 (by decide) ∧ val_main_v93 (F := Ideal) x g w = kvr x g w 896 (by decide)
    ∧ val_main_v27 (F := Ideal) x g w = kvr x g w 1024 (by decide) ∧ val_main_v29 (F := Ideal) x g w = kvr x g w 1152 (by decide) := by
  refine ⟨?_, ?_, ?_, ?_, ?_, ?_⟩ <;> funext i <;> idx_vars i <;>
    pointwise [val_main_v15, val_main_v16, val_main_v17, val_main_v18, val_main_v19, val_main_v20, val_main_v27, val_main_v29, val_main_v90, val_main_v91, val_main_v92, val_main_v93] <;>
    exact kvr_apply x g w _ _ i0 i1 i2 i3 _ (by first | rfl | (dsimp only; omega)) (by decide) (by decide)

theorem ref_kw : val_main_v94 (F := Ideal) x kw g w = moved kw x g w 1024 (by decide) := by
  funext i
  idx_vars i
  pointwise [val_main_v94, val_main_v28]
  by_cases hi : 4 + i1.val < 512
  · rw [dif_pos hi]
    exact (moved_lt _ _ _ _ _ _ i0 i1 i2 i3 hi).symm
  · rw [dif_neg hi, (ref_rows x g w).2.2.2.2.1]
    exact (moved_ge _ _ _ _ _ _ i0 i1 i2 i3 hi).symm

theorem ref_vw : val_main_v95 (F := Ideal) x vw g w = moved vw x g w 1152 (by decide) := by
  funext i
  idx_vars i
  pointwise [val_main_v95, val_main_v30]
  by_cases hi : 4 + i1.val < 512
  · rw [dif_pos hi]
    exact (moved_lt _ _ _ _ _ _ i0 i1 i2 i3 hi).symm
  · rw [dif_neg hi, (ref_rows x g w).2.2.2.2.2]
    exact (moved_ge _ _ _ _ _ _ i0 i1 i2 i3 hi).symm

/-- A column past the gates, at the row of its position and sequence. -/
theorem prod_slabT (o n : ℕ) (h : o + n ≤ 4992) (r : Fin 128) (b : Fin 32) (s : Fin 4) (l : Fin n) (j : Fin 4888) (hr : r.val = s.val * 32 + b.val)
    (hj : j.val + 104 = o + l.val) (ho : 1408 ≤ o) : val_main_v13 (F := Ideal) x g w (ix3 b s j) = slabT x g w o n h (ix2 r l) :=
  prod_zrow x g w _ _ _ ⟨o + l.val, col_lt l.isLt h⟩ _ (by show r.val % 32 * 4 + r.val / 32 = _; omega) fun k => wall_high w k _ _ hj (by dsimp only; omega)

/-- Position `s` of sequence `b` after the two kept ones is row `s * 32 + b`. -/
theorem padded (b : Fin 32) (s : Fin 6) (k : Fin 512) (i : Fin 192) (hi : i.val = s.val * 32 + b.val) :
    val_main_v35 (F := Ideal) x p g w (ix3 b s k) = up (slabT x g w 1408 1536 (by decide)) (kept p) i k := by
  pointwise [val_main_v35, val_main_v34, val_main_v23, val_main_v24]
  unfold up
  by_cases h : s.val < 2
  · rw [dif_pos h, dif_pos (by omega)]
    refine congrArg p ?_
    refine congrArg₂ (fun (b : Fin 32) (s : Fin 2) => ix3 b s k) (Fin.ext ?_) (Fin.ext ?_)
    · show b.val = i.val % 32
      omega
    · show s.val = i.val / 32
      omega
  · rw [dif_neg h, dif_neg (by omega)]
    exact congrArg₂ (· * ·)
      (prod_slabT x g w 1408 1536 (by decide) _ _ _ _ _ (by dsimp only; omega) (by dsimp only; omega) (by decide))
      (prod_slabT x g w 1408 1536 (by decide) _ _ _ _ _ (by dsimp only; omega) (by dsimp only; omega) (by decide))

theorem conv_apply (r : Fin 128) (b : Fin 32) (s : Fin 4) (k : Fin 512) (hr : r.val = s.val * 32 + b.val) :
    val_main_v59 (F := Ideal) x p g w cw cb (ix3 b s k)
      = conv (slabT x g w 1408 1536 (by decide)) (kept p) cw (fun k => cb (ix1 k)) r k := by
  pointwise [val_main_v22, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59]
  rw [padded x p g w b _ k ⟨r.val, by omega⟩ (by dsimp only; omega), padded x p g w b _ k ⟨32 + r.val, by omega⟩ (by dsimp only; omega),
    padded x p g w b _ k ⟨64 + r.val, by omega⟩ (by dsimp only; omega),
    prod_slabT x g w 1408 1536 (by decide) r b s ⟨k.val, by omega⟩ _ hr (by dsimp only; omega) (by decide)]
  rfl

theorem heads_apply (r : Fin 128) (b : Fin 32) (s : Fin 4) (k : Fin 512) (hr : r.val = s.val * 32 + b.val) :
    val_main_v33 (F := Ideal) a (ix3 b s k) = attn a (ix2 r (swap.symm k)) := by
  have hk : (swap.symm k).val = k.val / 64 % 4 * 128 + k.val / 256 * 64 + k.val % 64 := rfl
  pointwise [val_main_v33, val_main_v32, val_main_v31]
  refine congrArg a ?_
  funext q
  fin_cases q <;> refine Fin.ext ?_
  · show b.val = r.val % 32
    omega
  · show k.val / 256 = (swap.symm k).val / 64 % 2
    omega
  · show s.val = r.val / 32
    omega
  · show k.val / 64 % 4 = (swap.symm k).val / 128
    omega
  · show k.val % 64 = (swap.symm k).val % 64
    omega

theorem gate_apply (r : Fin 128) (b : Fin 32) (s : Fin 4) (d : Fin 1024) (hr : r.val = s.val * 32 + b.val) :
    val_main_v25 (F := Ideal) x g w (ix3 b s d) = slabT x g w 2944 2048 (by decide) (ix2 r ⟨d.val, by omega⟩)
    ∧ val_main_v26 (F := Ideal) x g w (ix3 b s d) = slabT x g w 2944 2048 (by decide) (ix2 r ⟨1024 + d.val, by omega⟩) := by
  constructor
  all_goals
    pointwise [val_main_v25, val_main_v26]
    exact prod_slabT x g w 2944 2048 (by decide) _ _ _ _ _ hr (by dsimp only; omega) (by decide)

theorem rows_apply (r : Fin 128) (l : Fin 1024) :
    val_main_v89 (F := Ideal) x p a g w cw cb wn wc wo (ix2 r l) = rowsOut x p a g w cw cb wn wc wo (ix2 r l) := by
  pointwise [val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v88, val_main_v89, val_main_cst_2, val_main_cst_3, val_main_cst_4, val_main_cst_5]
  have hr : r.val = r.val / 32 * 32 + r.val % 32 := by omega
  simp only [fun k => heads_apply a r ⟨r.val % 32, by omega⟩ ⟨r.val / 32, by omega⟩ k hr,
    fun k => conv_apply x p g w cw cb r ⟨r.val % 32, by omega⟩ ⟨r.val / 32, by omega⟩ k hr,
    fun d => (gate_apply x g w r ⟨r.val % 32, by omega⟩ ⟨r.val / 32, by omega⟩ d hr).1,
    fun d => (gate_apply x g w r ⟨r.val % 32, by omega⟩ ⟨r.val / 32, by omega⟩ d hr).2, sum_swap (fun k => attn a (ix2 r k))]
  rfl

theorem ref_out : val_main_v89 (F := Ideal) x p a g w cw cb wn wc wo = rowsOut x p a g w cw cb wn wc wo := by
  funext i
  idx_vars i
  exact rows_apply x p a g w cw cb wn wc wo i0 i1

theorem ref_u : val_main_v96 (F := Ideal) x p g w = keptOut x p g w := by
  funext i
  idx_vars i
  pointwise [val_main_v96]
  exact padded x p g w _ _ _ _ (by show 128 + (i1.val * 32 + i0.val) = (4 + i1.val) * 32 + i0.val; omega)

end Cert.DecRefIdeal.Sum

namespace Cert.Proof

open Cert.DecIdeal.Gen Cert.DecIdeal.Sum Cert.DecRefIdeal.Sum Cert.DecRefIdeal.Read

set_option maxHeartbeats 4000000 in
/-- The kernel program and the reference end with the same arrays, each having left its arguments as they were. -/
theorem dec_algebraic : Cert.algebraic_DecIdeal_DecRefIdeal := fun m ρ m' ρ' _ hag =>
  ⟨fun c => W7 m ρ c (Proc.devRef .tc Cert.DecIdeal.main_v18_0), fun c => W7 m ρ c (Proc.devRef .tc Cert.DecIdeal.main_v18_7), fun c => W7 m ρ c (Proc.devRef .tc Cert.DecIdeal.main_v18_8), fun c => W7 m ρ c (Proc.devRef .tc Cert.DecIdeal.main_v33_0), fun c => W7 m ρ c (Proc.devRef .tc Cert.DecIdeal.main_v40), fun c => W7 m ρ c (Proc.devRef .tc Cert.DecIdeal.main_v41), fun c => W7 m ρ c (Proc.devRef .tc Cert.DecIdeal.main_v42), fun c => W7 m ρ c (Proc.devRef .tc Cert.DecIdeal.main_v43), fun c => W7 m ρ c (Proc.devRef .tc Cert.DecIdeal.main_v36), fun c => W7 m ρ c (Proc.devRef .tc Cert.DecIdeal.main_v39), fun c => W7 m ρ c (Proc.devRef .tc Cert.DecIdeal.main_v45),
    (θ_run _ _ _).mono (fun _ h c => ⟨h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.2 c⟩) (θ_run_and (run_all m ρ) (unchanged m ρ)),
    (θ_run _ _ _).mono (fun _ h c => by
      obtain ⟨h0, h1, h2, h3, h4, h5, h6, h7, h8, h9, h10, h11⟩ := hag c
      refine ⟨?_, ?_, ?_, ?_, ?_, ?_, ?_, ?_, ?_, ?_, ?_, (h c).2.2.2.2.2.2.2.2.2.2.2⟩
      · refine (h c).1.trans (Eq.trans ?_ (end_q m ρ c).symm)
        rw [val_main_v82_eq, h0, h5, h6]
        exact ref_q _ _ _
      · refine (h c).2.1.trans (Eq.trans ?_ (end_kvb m ρ c).symm)
        rw [val_main_v85_eq, h0, h5, h6]
        exact ref_kvb _ _ _
      · refine (h c).2.2.1.trans (Eq.trans ?_ (end_gn m ρ c).symm)
        rw [val_main_v87_eq, h0, h5, h6]
        exact ref_gn _ _ _
      · refine (h c).2.2.2.1.trans (Eq.trans ?_ (end_rows m ρ c).symm)
        rw [val_main_v89_eq, h0, h3, h4, h5, h6, h7, h8, h9, h10, h11]
        exact ref_out _ _ _ _ _ _ _ _ _ _
      · refine (h c).2.2.2.2.1.trans (Eq.trans ?_ (end_kc m ρ c).symm)
        rw [val_main_v90_eq, h0, h5, h6]
        exact (ref_rows _ _ _).1
      · refine (h c).2.2.2.2.2.1.trans (Eq.trans ?_ (end_vc m ρ c).symm)
        rw [val_main_v91_eq, h0, h5, h6]
        exact (ref_rows _ _ _).2.1
      · refine (h c).2.2.2.2.2.2.1.trans (Eq.trans ?_ (end_ks m ρ c).symm)
        rw [val_main_v92_eq, h0, h5, h6]
        exact (ref_rows _ _ _).2.2.1
      · refine (h c).2.2.2.2.2.2.2.1.trans (Eq.trans ?_ (end_vs m ρ c).symm)
        rw [val_main_v93_eq, h0, h5, h6]
        exact (ref_rows _ _ _).2.2.2.1
      · refine (h c).2.2.2.2.2.2.2.2.1.trans (Eq.trans ?_ (end_kw m ρ c).symm)
        rw [val_main_v94_eq, h0, h1, h5, h6]
        exact ref_kw _ _ _ _
      · refine (h c).2.2.2.2.2.2.2.2.2.1.trans (Eq.trans ?_ (end_vw m ρ c).symm)
        rw [val_main_v95_eq, h0, h2, h5, h6]
        exact ref_vw _ _ _ _
      · refine (h c).2.2.2.2.2.2.2.2.2.2.1.trans (Eq.trans ?_ (end_u m ρ c).symm)
        rw [val_main_v96_eq, h0, h3, h5, h6]
        exact ref_u _ _ _ _) (Cert.DecRefIdeal.Value.run m' ρ')⟩

end Cert.Proof

end
-- ==== Proof.MlpDecKernel.lean ====
/- The MLP call on the decoding rows: four grid steps over one block of 128 rows. -/
module

public import proofs.«01_k».proof.Proof.Common
public import proofs.«01_k».proof.Proof.Gen.MlpDecIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpDecIdeal.Sum

open Cert.MlpDecIdeal Cert.MlpDecIdeal.Gen Cert.Layer Idealize.ShloMosaic Idealize.ShloMosaic.TcCoe Idealize.SL.Sem
open Idealize.ShloMosaic.Pipeline (Dat)

/-- The normalised rows of a block. -/
theorem pay3_apply (x : Vec Ideal S128x1024 .f32) (g : Vec Ideal S1x1024 .f32) (r : Fin 128) (l : Fin 1024) :
    k0_pay3 x g (ix2 r l) = rms (fun k => x (ix2 r k)) (fun k => g (ix2 0 k)) l := by
  pointwise [k0_pay3, rms]

/-- The last step of a block: the rows of the sum normalised. -/
theorem pay2_apply (x a : Vec Ideal S128x1024 .f32) (g : Vec Ideal S1x1024 .f32) (r : Fin 128) (l : Fin 1024) :
    k0_pay2 x a g (ix2 r l) = rms (fun k => x (ix2 r k) + a (ix2 r k)) (fun k => g (ix2 0 k)) l := by
  pointwise [k0_pay2, rms]

theorem pay5_apply (h : Vec Ideal S64x1024 .bf16) (u : Vec Ideal S1024x1024 .bf16) (a : Vec Ideal S64x1024 .f32)
    (d : Vec Ideal S1024x1024 .bf16) (r : Fin 64) (l : Fin 1024) :
    k0_pay5 h u a d (ix2 r l) = a (ix2 r l) + units (fun k => h (ix2 r k)) (fun k f => u (ix2 k f)) (fun f l => d (ix2 f l)) l := by
  pointwise [k0_pay5, units]

theorem pay1_apply (h : Vec Ideal S64x1024 .bf16) (u : Vec Ideal S1024x1024 .bf16) (a : Vec Ideal S64x1024 .f32)
    (d : Vec Ideal S1024x1024 .bf16) (r : Fin 64) (l : Fin 1024) :
    k0_pay1 (k0_pay6 h u) a (k0_pay7 d) (constant S64x1024 .f32 0x00000000#32) (ix2 r l) = a (ix2 r l) + units (fun k => h (ix2 r k)) (fun k f => u (ix2 k f)) (fun f l => d (ix2 f l)) l := by
  pointwise [k0_pay1, k0_pay6, k0_pay7, units]

variable (m : (ℓ : Loc nD τ sig) → Buf (Elt Ideal) ℓ)

/-- The two stores fill the buffer. -/
theorem halves_cover (pa pb : Vec Ideal S64x1024 .f32) (y : S128x1024.Idx) :
    ∃ p ∈ [(⟨Rect.unit (s := S128x1024) ![64, 0] ![64, 1024] inb_S128x1024_S64x1024_64_0, pb⟩ : View.Piece (Elt Ideal) S128x1024 .f32),
      ⟨Rect.unit (s := S128x1024) ![0, 0] ![64, 1024] inb_S128x1024_S64x1024_0_0, pa⟩], y ∈ p.1.set :=
  View.cover_of_tiledL (s := S128x1024) [_, _] S64x1024.size (by sl_kernel_rfl) y

/-- Reading the whole buffer after the two stores. -/
theorem readback (pa pb : Vec Ideal S64x1024 .f32) :
    (View.whole cc0_scratch1).readCov (Val := Elt Ideal) [(⟨Rect.unit (s := S128x1024) ![64, 0] ![64, 1024] inb_S128x1024_S64x1024_64_0, pb⟩ : View.Piece (Elt Ideal) S128x1024 .f32),
      ⟨Rect.unit (s := S128x1024) ![0, 0] ![64, 1024] inb_S128x1024_S64x1024_0_0, pa⟩] (Rect.unit ![0, 0] ![128, 1024] inb_S128x1024_S128x1024_0_0).toLoadRect
    = View.canon [(⟨Rect.unit (s := S128x1024) ![64, 0] ![64, 1024] inb_S128x1024_S64x1024_64_0, pb⟩ : View.Piece (Elt Ideal) S128x1024 .f32),
      ⟨Rect.unit (s := S128x1024) ![0, 0] ![64, 1024] inb_S128x1024_S64x1024_0_0, pa⟩] := by
  rw [View.readCov_eq_canon_ld (Val := Elt Ideal) (s := S128x1024) _ _ _ (halves_cover pa pb)]
  exact View.ld_unit_zero (S := S128x1024) (off := ![0, 0]) (by decide) _ _

/-- Two stores of 64 rows each leave the function whose upper and lower rows they hold, whatever was stored before. -/
theorem halves (G : S128x1024.Idx → EReal) (pa pb : Vec Ideal S64x1024 .f32) (L : List (View.Piece (Elt Ideal) S128x1024 .f32))
    (ha : ∀ (r : Fin 64) (l : Fin 1024), pa (ix2 r l) = G (ix2 ⟨r.val, by omega⟩ l))
    (hb : ∀ (r : Fin 64) (l : Fin 1024), pb (ix2 r l) = G (ix2 ⟨64 + r.val, by omega⟩ l)) (y : S128x1024.Idx) :
    View.canon ((⟨Rect.unit (s := S128x1024) ![64, 0] ![64, 1024] inb_S128x1024_S64x1024_64_0, pb⟩ : View.Piece (Elt Ideal) S128x1024 .f32)
      :: ⟨Rect.unit (s := S128x1024) ![0, 0] ![64, 1024] inb_S128x1024_S64x1024_0_0, pa⟩ :: L) y = G y := by
  refine View.canon_append_of_piecesOf G L [_, _] ⟨?_, ?_, trivial⟩ y ?_
  · intro x
    idx_vars x
    exact (hb _ _).trans (congrArg G (by blk_ext))
  · intro x
    idx_vars x
    exact (ha _ _).trans (congrArg G (by blk_ext))
  · exact halves_cover pa pb y

abbrev H (c : Dev nD) (n : ℕ) (h : n < cfg0.N) : Vec Ideal S128x1024 .bf16 := (outsAt0 m c n h).2.1
abbrev A (c : Dev nD) (n : ℕ) (h : n < cfg0.N) : Vec Ideal S128x1024 .f32 := (outsAt0 m c n h).2.2

theorem prev_lt (t : Fin cfg0.N) : t.val - 1 < cfg0.N := Nat.lt_of_le_of_lt (Nat.sub_le _ _) t.isLt

theorem H_first (c : Dev nD) (t : Fin cfg0.N) (h0 : t.val % 4 = 0) :
    H m c t.val t.isLt = k0_pay3 (iblk m c 0 t) (iblk m c 1 t) := by
  have h1 : ¬t.val % 4 = 3 := by omega
  unfold H
  rw [outsAt0_A m c t h0 h1]
  frame_out

theorem H_next (c : Dev nD) (t : Fin cfg0.N) (h0 : ¬t.val % 4 = 0) :
    H m c t.val t.isLt = H m c (t.val - 1) (prev_lt t) := by
  unfold H
  by_cases h1 : t.val % 4 = 3
  · rw [outsAt0_C m c t h0 h1]; rfl
  · rw [outsAt0_B m c t h0 h1]; rfl

theorem A_first (c : Dev nD) (t : Fin cfg0.N) (h0 : t.val % 4 = 0) (r : Fin 128) (l : Fin 1024) :
    A m c t.val t.isLt (ix2 r l) = 0 + units (fun k => k0_pay3 (iblk m c 0 t) (iblk m c 1 t) (ix2 r k))
      (fun k f => iblk m c 2 t (ix2 k f)) (fun f l => iblk m c 3 t (ix2 f l)) l := by
  have h1 : ¬t.val % 4 = 3 := by omega
  unfold A
  rw [outsAt0_A m c t h0 h1]
  frame_open
  simp (disch := decide) only [↓ View.readCov_skip, ↓ View.readCov_cons_toLoadRect, ↓ View.readCov_fill]
  frame_out
  refine halves (fun i => 0 + units (fun k => k0_pay3 (iblk m c 0 t) (iblk m c 1 t) (ix2 (i 0) k))
      (fun k f => iblk m c 2 t (ix2 k f)) (fun f l => iblk m c 3 t (ix2 f l)) (i 1)) _ _ _ ?_ ?_ (ix2 r l)
  · intro r l
    rw [pay5_apply]
    pointwise [k0_pay4, units]
  · intro r l
    rw [pay1_apply]
    pointwise [k0_pay4, units]

theorem A_next (c : Dev nD) (t : Fin cfg0.N) (h0 : ¬t.val % 4 = 0) (r : Fin 128) (l : Fin 1024) :
    A m c t.val t.isLt (ix2 r l) = A m c (t.val - 1) (prev_lt t) (ix2 r l)
      + units (fun k => H m c (t.val - 1) (prev_lt t) (ix2 r k))
      (fun k f => iblk m c 2 t (ix2 k f)) (fun f l => iblk m c 3 t (ix2 f l)) l := by
  unfold A H
  by_cases h1 : t.val % 4 = 3
  · rw [outsAt0_C m c t h0 h1]
    frame_out
    simp only [read_unread_whole]
    generalize outsAt0 m c (t.val - 1) (prev_lt t) = o
    refine halves (fun i => o.2.2 i + units (fun k => o.2.1 (ix2 (i 0) k))
      (fun k f => iblk m c 2 t (ix2 k f)) (fun f l => iblk m c 3 t (ix2 f l)) (i 1)) _ _ _ ?_ ?_ (ix2 r l)
    · intro r l
      rw [pay5_apply]
      pointwise [units]
    · intro r l
      rw [pay1_apply]
      pointwise [units]
  · rw [outsAt0_B m c t h0 h1]
    frame_out
    simp only [read_unread_whole]
    generalize outsAt0 m c (t.val - 1) (prev_lt t) = o
    refine halves (fun i => o.2.2 i + units (fun k => o.2.1 (ix2 (i 0) k))
      (fun k f => iblk m c 2 t (ix2 k f)) (fun f l => iblk m c 3 t (ix2 f l)) (i 1)) _ _ _ ?_ ?_ (ix2 r l)
    · intro r l
      rw [pay5_apply]
      pointwise [units]
    · intro r l
      rw [pay1_apply]
      pointwise [units]

theorem out_last (c : Dev nD) (t : Fin cfg0.N) (h1 : t.val % 4 = 3) :
    (outsAt0 m c t.val t.isLt).1 = k0_pay2 (iblk m c 0 t) (A m c t.val t.isLt) (iblk m c 4 t) := by
  have h0 : ¬t.val % 4 = 0 := by omega
  unfold A
  rw [outsAt0_C m c t h0 h1]
  frame_out
  rw [readback]

theorem idx : ∀ t : Fin grid0.N, win0_0.index t = ![0, 0] ∧ win0_1.index t = ![0, 0] ∧ win0_2.index t = ![0, t.val % 4]
    ∧ win0_3.index t = ![t.val % 4, 0] ∧ win0_4.index t = ![0, 0] ∧ win0_5.index t = ![0, 0] := by decide +kernel

theorem blk0 (c : Dev nD) (t : Fin cfg0.N) (r : Fin 128) (k : Fin 1024) :
    iblk m c 0 t (ix2 r k) = m ((c.tc : Thread nD τ).loc main_arg0) (ix2 r k) := by
  blk_ext [iblk, V, idx t]
theorem blk1 (c : Dev nD) (t : Fin cfg0.N) (k : Fin 1024) :
    iblk m c 1 t (ix2 0 k) = m ((c.tc : Thread nD τ).loc main_arg1) (ix1 k) := by
  blk_simp [iblk, idx t]
  entry_read
  pointwise
  blk_ext [idx t]
theorem blk4 (c : Dev nD) (t : Fin cfg0.N) (k : Fin 1024) :
    iblk m c 4 t (ix2 0 k) = m ((c.tc : Thread nD τ).loc main_arg4) (ix1 k) := by
  blk_simp [iblk, idx t]
  entry_read
  pointwise
  blk_ext [idx t]
theorem blk2 (c : Dev nD) (t : Fin cfg0.N) (k f : Fin 1024) :
    iblk m c 2 t (ix2 k f) = m ((c.tc : Thread nD τ).loc main_arg2) (ix2 k ⟨t.val % 4 * 1024 + f.val, by omega⟩) := by
  blk_ext [iblk, V, idx t]
theorem blk3 (c : Dev nD) (t : Fin cfg0.N) (f l : Fin 1024) :
    iblk m c 3 t (ix2 f l) = m ((c.tc : Thread nD τ).loc main_arg3) (ix2 ⟨t.val % 4 * 1024 + f.val, by omega⟩ l) := by
  blk_ext [iblk, V, idx t]

/-- The arrays of the launch, a row or a matrix at a time. -/
abbrev row (c : Dev nD) (i : Fin 128) : Fin 1024 → EReal := fun k => m ((c.tc : Thread nD τ).loc main_arg0) (ix2 i k)
abbrev gain (c : Dev nD) : Fin 1024 → EReal := fun k => m ((c.tc : Thread nD τ).loc main_arg1) (ix1 k)
abbrev up (c : Dev nD) : Fin 1024 → Fin 4096 → EReal := fun k f => m ((c.tc : Thread nD τ).loc main_arg2) (ix2 k f)
abbrev down (c : Dev nD) : Fin 4096 → Fin 1024 → EReal := fun f l => m ((c.tc : Thread nD τ).loc main_arg3) (ix2 f l)
abbrev gainF (c : Dev nD) : Fin 1024 → EReal := fun k => m ((c.tc : Thread nD τ).loc main_arg4) (ix1 k)

/-- The normalised row. -/
abbrev hrow (c : Dev nD) (r : Fin 128) : Fin 1024 → EReal := rms (row m c r) (gain m c)

theorem H_eq (c : Dev nD) (t : Fin cfg0.N) (r : Fin 128) (k : Fin 1024) : H m c t.val t.isLt (ix2 r k) = hrow m c r k := by
  obtain ⟨n, hn⟩ := t
  have hN : cfg0.N = 4 := N_0
  induction n with
  | zero =>
    rw [H_first m c ⟨0, hn⟩ rfl, pay3_apply]
    simp only [blk0, blk1]
  | succ n ih =>
    rw [H_next m c ⟨n + 1, hn⟩ (by show ¬(n + 1) % 4 = 0; omega)]
    exact ih (by omega)

/-- What step `t` adds. -/
def step (c : Dev nD) (t : ℕ) (r : Fin 128) (l : Fin 1024) : EReal :=
  slab (hrow m c r) (up m c) (down m c) ⟨t % 4, by omega⟩ l

theorem A_eq (c : Dev nD) (t : Fin cfg0.N) (h1 : t.val % 4 = 3) (r : Fin 128) (l : Fin 1024) :
    A m c t.val t.isLt (ix2 r l) = units (hrow m c r) (up m c) (down m c) l := by
  have hN : t.val < 4 := lt_of_lt_of_eq t.isLt N_0
  refine (Pipeline.eq_sum_of_reset_step_apply_of_mod (fun n h (i : Fin 128 × Fin 1024) => A m c n h (ix2 i.1 i.2)) 4 (fun _ => 0)
    (fun n i => step m c n i.1 i.2) ?_ ?_ t h1 (r, l)).trans ?_
  · intro t h0 i
    show A m c t.val t.isLt (ix2 i.1 i.2) = _
    rw [A_first m c t h0]
    simp only [← H_first m c t h0, H_eq, blk2, blk3]
    rfl
  · intro t h0 i
    show A m c t.val t.isLt (ix2 i.1 i.2) = _
    rw [A_next m c t h0]
    simp only [← H_next m c t h0, H_eq, blk2, blk3]
    rfl
  · rw [zero_add, Finset.sum_range, ← sum_slab]
    refine Finset.sum_congr rfl fun s _ => ?_
    have hs := s.isLt
    unfold step
    exact congrArg (fun s => slab _ _ _ s l) (Fin.ext (by show (4 * (t.val / 4) + s.val) % 4 = s.val; omega))

theorem final (c : Dev nD) : (dats m 0 c).arrAt 5 cfg0.N = fun i =>
    mlp (row m c (i 0)) (gain m c) (up m c) (down m c) (gainF m c) (i 1) := by
  refine (dats m 0 c).arrAt_eq_of_covers 5 _ (by decide +kernel) fun t hf y => ?_
  have h1 : t.val % 4 = 3 := (flush0_5 t).mp hf
  idx_vars y
  show (cfg0.win 5).cut (grid0.coords t) ((dats m 0 c).after 5 t) _ = _
  rw [after0_5, out_last m c t h1]
  have e : ((cfg0.win 5).blk t).view.emb (ix2 y0 y1) = ix2 y0 y1 := by
    blk_ext [idx t]
  show k0_pay2 (iblk m c 0 t) (A m c t.val t.isLt) (iblk m c 4 t) (ix2 y0 y1) = mlp (row m c (((cfg0.win 5).blk t).view.emb (ix2 y0 y1) 0)) _ _ _ _ (((cfg0.win 5).blk t).view.emb (ix2 y0 y1) 1)
  rw [e, pay2_apply]
  simp only [blk0, blk4, A_eq m c t h1]
  rfl

end Cert.MlpDecIdeal.Sum

end
-- ==== Proof.MlpDecValue.lean ====
/- The MLP call on the decoding rows and its plain reference leave the same array. -/
module

public import proofs.«01_k».proof.Defs
public import proofs.«01_k».proof.Proof.MlpDecKernel
public import proofs.«01_k».proof.Proof.Gen.MlpDecRefIdeal.Run
public import proofs.«01_k».proof.Proof.Gen.MlpDecRefIdeal.Read
public import Idealize.ShloMosaic.Lib.Pointwise

@[expose] public section

set_option maxRecDepth 16384

noncomputable section

open Idealize.ShloMosaic Idealize.SL.Sem
open scoped BigOperators

namespace Cert.MlpDecRefIdeal.Sum

open Cert.MlpDecRefIdeal Cert.MlpDecRefIdeal.Read

/-- The reference's result at a row and a column is the same sum over the hidden units. -/
theorem ref_apply (x : Vec Ideal S128x1024 .f32) (g : Vec Ideal S1024 .f32) (u : Vec Ideal S1024x4096 .f32) (d : Vec Ideal S4096x1024 .f32)
    (gf : Vec Ideal S1024 .f32) (i : Fin 128) (l : Fin 1024) :
    val_main_v30 (F := Ideal) x g u d gf (ix2 i l) = Cert.Layer.mlp (fun k => x (ix2 i k)) (fun k => g (ix1 k)) (fun k f => u (ix2 k f)) (fun f l => d (ix2 f l)) (fun k => gf (ix1 k)) l := by
  pointwise [Cert.Layer.mlp, Cert.Layer.units, Cert.Layer.rms, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_cst, val_main_call0_v0, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v28, val_main_v29, val_main_v30]

end Cert.MlpDecRefIdeal.Sum

namespace Cert.Proof

/-- What the call leaves, element by element. -/
def mlpDecOut (m : (ℓ : Loc Cert.MlpDecIdeal.nD Cert.MlpDecIdeal.τ Cert.MlpDecIdeal.sig) → Buf (Elt Ideal) ℓ) (c : Dev Cert.MlpDecIdeal.nD) :
    Cert.MlpDecIdeal.S128x1024.Idx → EReal := fun i =>
  Cert.Layer.mlp (Cert.MlpDecIdeal.Sum.row m c (i 0)) (Cert.MlpDecIdeal.Sum.gain m c) (Cert.MlpDecIdeal.Sum.up m c) (Cert.MlpDecIdeal.Sum.down m c)
    (Cert.MlpDecIdeal.Sum.gainF m c) (i 1)

theorem mlpDec_left (m : (ℓ : Loc Cert.MlpDecIdeal.nD Cert.MlpDecIdeal.τ Cert.MlpDecIdeal.sig) → Buf (Elt Ideal) ℓ) (c : Dev Cert.MlpDecIdeal.nD) :
    Cert.MlpDecIdeal.Value.G5 m c = mlpDecOut m c :=
  (Cert.MlpDecIdeal.Value.final5 m c).symm.trans (Cert.MlpDecIdeal.Sum.final m c)

/-- The kernel call on the decoding rows and the reference end with the same array, each having left its arguments as they were. -/
theorem mlpDec_algebraic : Cert.algebraic_MlpDecIdeal_MlpDecRefIdeal := fun m ρ m' ρ' _ hag =>
  ⟨mlpDecOut m, (θ_run _ _ _).mono (fun _ h c => ⟨(h c).1.trans (mlpDec_left m c), (h c).2⟩) (Cert.MlpDecIdeal.Value.run m ρ),
    (θ_run _ _ _).mono (fun _ h c => ⟨(h c).1.trans (by
        obtain ⟨h0, h1, h2, h3, h4⟩ := hag c
        rw [Cert.MlpDecRefIdeal.Read.val_main_v30_eq, h0, h1, h2, h3, h4]
        funext i
        idx_vars i
        exact Cert.MlpDecRefIdeal.Sum.ref_apply _ _ _ _ _ _ _), (h c).2⟩) (Cert.MlpDecRefIdeal.Value.run m' ρ')⟩

end Cert.Proof

end
-- ==== Proof.lean ====
/- The frames, the rewrites' side conditions and the value claims, put together. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.MlpValue
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptRefIdeal
public import proofs.«01_k».proof.Proof.Gen.PromptRefIdeal.Run
public import proofs.«01_k».proof.Proof.Gen.PromptRefIdeal.Read
public import proofs.«01_k».proof.Proof.PromptValue
public import proofs.«01_k».proof.Proof.Gen.Dec
public import proofs.«01_k».proof.Proof.Gen.Dec.Skeleton
public import proofs.«01_k».proof.Proof.Gen.Dec.Launch
public import proofs.«01_k».proof.Proof.Gen.Dec.Points
public import proofs.«01_k».proof.Proof.Gen.Dec.Frame
public import proofs.«01_k».proof.Proof.Gen.DecIdeal
public import proofs.«01_k».proof.Proof.Gen.DecIdeal.Skeleton
public import proofs.«01_k».proof.Proof.Gen.DecIdeal.Launch
public import proofs.«01_k».proof.Proof.Gen.DecIdeal.Points
public import proofs.«01_k».proof.Proof.Gen.DecIdeal.Frame
public import proofs.«01_k».proof.Proof.Gen.DecRefIdeal
public import proofs.«01_k».proof.Proof.Gen.DecRefIdeal.Run
public import proofs.«01_k».proof.Proof.Gen.DecRefIdeal.Read
public import proofs.«01_k».proof.Proof.DecValue
public import proofs.«01_k».proof.Proof.Gen.MlpDec
public import proofs.«01_k».proof.Proof.Gen.MlpDec.Skeleton
public import proofs.«01_k».proof.Proof.Gen.MlpDec.Launch
public import proofs.«01_k».proof.Proof.Gen.MlpDec.Points
public import proofs.«01_k».proof.Proof.Gen.MlpDec.Frame
public import proofs.«01_k».proof.Proof.Gen.MlpDecIdeal
public import proofs.«01_k».proof.Proof.Gen.MlpDecIdeal.Skeleton
public import proofs.«01_k».proof.Proof.Gen.MlpDecIdeal.Launch
public import proofs.«01_k».proof.Proof.Gen.MlpDecIdeal.Points
public import proofs.«01_k».proof.Proof.Gen.MlpDecIdeal.Frame
public import proofs.«01_k».proof.Proof.Gen.MlpDecRefIdeal
public import proofs.«01_k».proof.Proof.Gen.MlpDecRefIdeal.Run
public import proofs.«01_k».proof.Proof.Gen.MlpDecRefIdeal.Read
public import proofs.«01_k».proof.Proof.MlpDecValue
public import Idealize.ShloMosaic.Adequacy
public import Idealize.ShloMosaic.Init

@[expose] public section

noncomputable section

namespace Cert.Proof

open Idealize.ShloMosaic Idealize.SL.Sem

/-- The reference of `Mlp` terminates and leaves its arguments as they were; it declares no semaphore. -/
theorem mlp_ref_frame : Cert.quiescent_MlpRefIdeal := fun m ρ _ =>
  (θ_run _ _ _).mono (fun r h => ⟨fun c => (h c).2, sem_eq_zero_of_no_sems (by decide) r.2⟩) (Cert.MlpRefIdeal.Value.run m ρ)

/-- The reference of `Prompt` terminates and leaves its arguments as they were; it declares no semaphore. -/
theorem prompt_ref_frame : Cert.quiescent_PromptRefIdeal := fun m ρ _ =>
  (θ_run _ _ _).mono (fun r h => ⟨fun c => (h c).2.2.2.2.2.2.2.2.2.2.2.2.2, sem_eq_zero_of_no_sems (by decide) r.2⟩) (Cert.PromptRefIdeal.Value.run m ρ)

/-- The reference of `Dec` terminates and leaves its arguments as they were; it declares no semaphore. -/
theorem dec_ref_frame : Cert.quiescent_DecRefIdeal := fun m ρ _ =>
  (θ_run _ _ _).mono (fun r h => ⟨fun c => (h c).2.2.2.2.2.2.2.2.2.2.2, sem_eq_zero_of_no_sems (by decide) r.2⟩) (Cert.DecRefIdeal.Value.run m ρ)

/-- The reference of `MlpDec` terminates and leaves its arguments as they were; it declares no semaphore. -/
theorem mlpDec_ref_frame : Cert.quiescent_MlpDecRefIdeal := fun m ρ _ =>
  (θ_run _ _ _).mono (fun r h => ⟨fun c => (h c).2, sem_eq_zero_of_no_sems (by decide) r.2⟩) (Cert.MlpDecRefIdeal.Value.run m ρ)

theorem claim : Cert.Claim := ⟨Cert.Mlp.Gen.facts, Cert.MlpIdeal.Gen.facts, Cert.MlpRefIdeal.Gen.facts, Cert.Prompt.Gen.facts, Cert.PromptIdeal.Gen.facts, Cert.PromptRefIdeal.Gen.facts, Cert.Dec.Gen.facts, Cert.DecIdeal.Gen.facts, Cert.DecRefIdeal.Gen.facts, Cert.MlpDec.Gen.facts, Cert.MlpDecIdeal.Gen.facts, Cert.MlpDecRefIdeal.Gen.facts,
  fun m ρ _ => Cert.Mlp.Gen.frame m ρ, fun m ρ _ => Cert.MlpIdeal.Gen.frame m ρ, mlp_ref_frame,
  fun m ρ _ => Cert.Prompt.Gen.frame m ρ, fun m ρ _ => Cert.PromptIdeal.Gen.frame m ρ, prompt_ref_frame,
  fun m ρ _ => Cert.Dec.Gen.frame m ρ, fun m ρ _ => Cert.DecIdeal.Gen.frame m ρ, dec_ref_frame,
  fun m ρ _ => Cert.MlpDec.Gen.frame m ρ, fun m ρ _ => Cert.MlpDecIdeal.Gen.frame m ρ, mlpDec_ref_frame,
  trivial, mlp_algebraic, trivial, prompt_algebraic, trivial, dec_algebraic, trivial, mlpDec_algebraic⟩

end Cert.Proof

end
